-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "masked" .f32 0xF149F2CA#32 ⊥
  ∧ IdealRules.named_const.Statement Cert.KernelIdeal.κ "score_scale" .f32 0x3E16C740#32 ((((Real.log 2) * (Real.sqrt 96))⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x4096x16x96 : Shape := ⟨4, ![6, 4096, 16, 96]⟩
abbrev S6x32x16 : Shape := ⟨3, ![6, 32, 16]⟩
abbrev S6x4096x2x96 : Shape := ⟨4, ![6, 4096, 2, 96]⟩
abbrev S6x32x2 : Shape := ⟨3, ![6, 32, 2]⟩
abbrev S6x2x96 : Shape := ⟨3, ![6, 2, 96]⟩
abbrev S6x4096x16 : Shape := ⟨3, ![6, 4096, 16]⟩
abbrev S6x16x4096 : Shape := ⟨3, ![6, 16, 4096]⟩
abbrev S96x4096 : Shape := ⟨2, ![96, 4096]⟩
abbrev S96x128 : Shape := ⟨2, ![96, 128]⟩
abbrev S96x1 : Shape := ⟨2, ![96, 1]⟩
abbrev S6x2x8x4096 : Shape := ⟨4, ![6, 2, 8, 4096]⟩
abbrev S6x2x4096x8 : Shape := ⟨4, ![6, 2, 4096, 8]⟩
abbrev S6x16x4096x96 : Shape := ⟨4, ![6, 16, 4096, 96]⟩
abbrev S6x2x4096x96 : Shape := ⟨4, ![6, 2, 4096, 96]⟩
abbrev S6x2x96x4096 : Shape := ⟨4, ![6, 2, 96, 4096]⟩
abbrev S6x2x96x1 : Shape := ⟨4, ![6, 2, 96, 1]⟩
abbrev S6x4096x1536 : Shape := ⟨3, ![6, 4096, 1536]⟩
abbrev S1x8x256x96 : Shape := ⟨4, ![1, 8, 256, 96]⟩
abbrev S1x1x4096x96 : Shape := ⟨4, ![1, 1, 4096, 96]⟩
abbrev S1x1x96x4096 : Shape := ⟨4, ![1, 1, 96, 4096]⟩
abbrev S1x8x256 : Shape := ⟨3, ![1, 8, 256]⟩
abbrev S1x1x4096x8 : Shape := ⟨4, ![1, 1, 4096, 8]⟩
abbrev S1x1x96x1 : Shape := ⟨4, ![1, 1, 96, 1]⟩
abbrev S1x256x768 : Shape := ⟨3, ![1, 256, 768]⟩
abbrev S1x1x8x256 : Shape := ⟨4, ![1, 1, 8, 256]⟩
abbrev S8x256 : Shape := ⟨2, ![8, 256]⟩
abbrev S8x96x256 : Shape := ⟨3, ![8, 96, 256]⟩
abbrev S256x256 : Shape := ⟨2, ![256, 256]⟩
abbrev S1x1x256x96 : Shape := ⟨4, ![1, 1, 256, 96]⟩
abbrev S256x96 : Shape := ⟨2, ![256, 96]⟩
abbrev S1x1x96x256 : Shape := ⟨4, ![1, 1, 96, 256]⟩
abbrev S96x256 : Shape := ⟨2, ![96, 256]⟩
abbrev S1x1x1 : Shape := ⟨3, ![1, 1, 1]⟩
abbrev S128x128 : Shape := ⟨2, ![128, 128]⟩
abbrev S128x256 : Shape := ⟨2, ![128, 256]⟩
abbrev S1x1x256 : Shape := ⟨3, ![1, 1, 256]⟩
abbrev S1x256 : Shape := ⟨2, ![1, 256]⟩
abbrev S1x1x256x1 : Shape := ⟨4, ![1, 1, 256, 1]⟩
abbrev S256x1 : Shape := ⟨2, ![256, 1]⟩
abbrev S256 : Shape := ⟨1, ![256]⟩
abbrev S1x96x256 : Shape := ⟨3, ![1, 96, 256]⟩
abbrev S1x1x1x256 : Shape := ⟨4, ![1, 1, 1, 256]⟩
abbrev S256x768 : Shape := ⟨2, ![256, 768]⟩

abbrev nBuf : Space → Nat
  | .hbm => 21
  | .vmem => 21
  | .smem => 2
  | _ => 0

abbrev bufTy : (tb : Table) → Fin (tcTables nBuf tb) → BufTy
  | .hbm, ⟨0, _⟩ => ⟨S6x4096x16x96, .fp8e4m3⟩
  | .hbm, ⟨1, _⟩ => ⟨S6x32x16, .f32⟩
  | .hbm, ⟨2, _⟩ => ⟨S6x4096x2x96, .fp8e4m3⟩
  | .hbm, ⟨3, _⟩ => ⟨S6x32x2, .f32⟩
  | .hbm, ⟨4, _⟩ => ⟨S6x4096x2x96, .fp8e4m3⟩
  | .hbm, ⟨5, _⟩ => ⟨S6x2x96, .f32⟩
  | .hbm, ⟨6, _⟩ => ⟨S6x4096x16, .f32⟩
  | .hbm, ⟨7, _⟩ => ⟨S6x16x4096, .f32⟩
  | .hbm, ⟨8, _⟩ => ⟨S96x4096, .f32⟩
  | .hbm, ⟨9, _⟩ => ⟨S96x4096, .f32⟩
  | .hbm, ⟨10, _⟩ => ⟨S6x16x4096, .f32⟩
  | .hbm, ⟨11, _⟩ => ⟨S6x2x8x4096, .f32⟩
  | .hbm, ⟨12, _⟩ => ⟨S6x2x4096x8, .f32⟩
  | .hbm, ⟨13, _⟩ => ⟨S6x16x4096x96, .fp8e4m3⟩
  | .hbm, ⟨14, _⟩ => ⟨S6x2x4096x96, .fp8e4m3⟩
  | .hbm, ⟨15, _⟩ => ⟨S6x2x96x4096, .fp8e4m3⟩
  | .hbm, ⟨16, _⟩ => ⟨S6x2x96x1, .f32⟩
  | .hbm, ⟨17, _⟩ => ⟨S6x4096x1536, .bf16⟩
  | .hbm, ⟨18, _⟩ => ⟨S6x2x8x4096, .f32⟩
  | .hbm, ⟨19, _⟩ => ⟨S6x16x4096, .f32⟩
  | .hbm, ⟨20, _⟩ => ⟨S6x4096x16, .f32⟩
  | .local _ .vmem, ⟨0, _⟩ => ⟨S96x4096, .f32⟩
  | .local _ .vmem, ⟨1, _⟩ => ⟨S96x4096, .f32⟩
  | .local _ .vmem, ⟨2, _⟩ => ⟨S1x8x256x96, .fp8e4m3⟩
  | .local _ .vmem, ⟨3, _⟩ => ⟨S1x8x256x96, .fp8e4m3⟩
  | .local _ .vmem, ⟨4, _⟩ => ⟨S1x1x4096x96, .fp8e4m3⟩
  | .local _ .vmem, ⟨5, _⟩ => ⟨S1x1x4096x96, .fp8e4m3⟩
  | .local _ .vmem, ⟨6, _⟩ => ⟨S1x1x96x4096, .fp8e4m3⟩
  | .local _ .vmem, ⟨7, _⟩ => ⟨S1x1x96x4096, .fp8e4m3⟩
  | .local _ .vmem, ⟨8, _⟩ => ⟨S1x8x256, .f32⟩
  | .local _ .vmem, ⟨9, _⟩ => ⟨S1x8x256, .f32⟩
  | .local _ .vmem, ⟨10, _⟩ => ⟨S1x1x4096x8, .f32⟩
  | .local _ .vmem, ⟨11, _⟩ => ⟨S1x1x4096x8, .f32⟩
  | .local _ .vmem, ⟨12, _⟩ => ⟨S1x1x96x1, .f32⟩
  | .local _ .vmem, ⟨13, _⟩ => ⟨S1x1x96x1, .f32⟩
  | .local _ .vmem, ⟨14, _⟩ => ⟨S1x256x768, .bf16⟩
  | .local _ .vmem, ⟨15, _⟩ => ⟨S1x256x768, .bf16⟩
  | .local _ .vmem, ⟨16, _⟩ => ⟨S1x1x8x256, .f32⟩
  | .local _ .vmem, ⟨17, _⟩ => ⟨S1x1x8x256, .f32⟩
  | .local _ .vmem, ⟨18, _⟩ => ⟨S8x256, .f32⟩
  | .local _ .vmem, ⟨19, _⟩ => ⟨S8x256, .f32⟩
  | .local _ .vmem, ⟨20, _⟩ => ⟨S8x96x256, .f32⟩
  | .local _ .smem, ⟨0, _⟩ => ⟨S6x32x16, .f32⟩
  | .local _ .smem, ⟨1, _⟩ => ⟨S6x32x2, .f32⟩
  | _, _ => ⟨S6x4096x16x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg1_0 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg3_1 : Ref sig .tc := ⟨.vmem, 5, rfl⟩
abbrev cc1_stg4_0 : Ref sig .tc := ⟨.vmem, 6, rfl⟩
abbrev cc1_stg4_1 : Ref sig .tc := ⟨.vmem, 7, rfl⟩
abbrev cc1_stg5_0 : Ref sig .tc := ⟨.vmem, 8, rfl⟩
abbrev cc1_stg5_1 : Ref sig .tc := ⟨.vmem, 9, rfl⟩
abbrev cc1_stg6_0 : Ref sig .tc := ⟨.vmem, 10, rfl⟩
abbrev cc1_stg6_1 : Ref sig .tc := ⟨.vmem, 11, rfl⟩
abbrev cc1_stg7_0 : Ref sig .tc := ⟨.vmem, 12, rfl⟩
abbrev cc1_stg7_1 : Ref sig .tc := ⟨.vmem, 13, rfl⟩
abbrev cc1_stg8_0 : Ref sig .tc := ⟨.vmem, 14, rfl⟩
abbrev cc1_stg8_1 : Ref sig .tc := ⟨.vmem, 15, rfl⟩
abbrev cc1_stg9_0 : Ref sig .tc := ⟨.vmem, 16, rfl⟩
abbrev cc1_stg9_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc1_stg0_0 : Ref sig .tc := ⟨.smem, 0, rfl⟩
abbrev cc1_stg1_0 : Ref sig .tc := ⟨.smem, 1, rfl⟩
abbrev cc0_sem0_0 : DmaSem sig := 0
abbrev cc0_sem1_0 : DmaSem sig := 1
abbrev cc1_sem0_0 : DmaSem sig := 2
abbrev cc1_sem1_0 : DmaSem sig := 3
abbrev cc1_sem2_0 : DmaSem sig := 4
abbrev cc1_sem2_1 : DmaSem sig := 5
abbrev cc1_sem3_0 : DmaSem sig := 6
abbrev cc1_sem3_1 : DmaSem sig := 7
abbrev cc1_sem4_0 : DmaSem sig := 8
abbrev cc1_sem4_1 : DmaSem sig := 9
abbrev cc1_sem5_0 : DmaSem sig := 10
abbrev cc1_sem5_1 : DmaSem sig := 11
abbrev cc1_sem6_0 : DmaSem sig := 12
abbrev cc1_sem6_1 : DmaSem sig := 13
abbrev cc1_sem7_0 : DmaSem sig := 14
abbrev cc1_sem7_1 : DmaSem sig := 15
abbrev cc1_sem8_0 : DmaSem sig := 16
abbrev cc1_sem8_1 : DmaSem sig := 17
abbrev cc1_sem9_0 : DmaSem sig := 18
abbrev cc1_sem9_1 : DmaSem sig := 19

abbrev nD : Nat := 1
abbrev τ : Topo := Topo.v7x

variable {F : FTy → Type} [FloatOps F]

abbrev grid0 : Pipeline.Grid := .none

abbrev stage0_0 : Fin 1 → Memref sig .tc .vmem S96x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨3, ![6, 2, 16], ![false, false, false]⟩

@[reducible] def k1_t1_loop (i : grid1.Coords) : Scf.Loop 32 :=
  let c0_i32 : BitVec 32 := 0#32
  let arg2 : BitVec 32 := BitVec.ofNat 32 (i 2).val
  let v14 : BitVec 32 := Scalar.subi arg2 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_9 : BitVec 32 := 1#32
  ⟨c0_i32, v18, c1_i32_9⟩
def k1_mult1 (i : grid1.Coords) (k1_t1 : Fin (k1_t1_loop i).trips) : BitVec 32 :=
  let c0_i32 : BitVec 32 := 0#32
  let c1_i32_9 : BitVec 32 := 1#32
  let arg16 : BitVec 32 := Scf.iv c0_i32 c1_i32_9 k1_t1
  let c256_i32_550 : BitVec 32 := 256#32
  let v1154 : BitVec 32 := Scalar.muli arg16 c256_i32_550
  v1154
def k1_off1 (i : grid1.Coords) (k1_t1 : Fin (k1_t1_loop i).trips) : Fin 4 → Nat :=
  let c0_551 : Index := 0#32
  let c0_552 : Index := 0#32
  let c0_i32 : BitVec 32 := 0#32
  let c1_i32_9 : BitVec 32 := 1#32
  let arg16 : BitVec 32 := Scf.iv c0_i32 c1_i32_9 k1_t1
  let c256_i32_550 : BitVec 32 := 256#32
  let v1154 : BitVec 32 := Scalar.muli arg16 c256_i32_550
  let v1155 : BitVec 32 := v1154
  let v1156 : Index := Scalar.indexCast v1155
  let c0_553 : Index := 0#32
  ![0, 0, v1156.toNat, 0]
def k1_off2 (i : grid1.Coords) (k1_t1 : Fin (k1_t1_loop i).trips) : Fin 4 → Nat :=
  let c0_554 : Index := 0#32
  let c0_555 : Index := 0#32
  let c0_556 : Index := 0#32
  let c0_i32 : BitVec 32 := 0#32
  let c1_i32_9 : BitVec 32 := 1#32
  let arg16 : BitVec 32 := Scf.iv c0_i32 c1_i32_9 k1_t1
  let c256_i32_550 : BitVec 32 := 256#32
  let v1154 : BitVec 32 := Scalar.muli arg16 c256_i32_550
  let v1155 : BitVec 32 := v1154
  let v1159 : Index := Scalar.indexCast v1155
  ![0, 0, 0, v1159.toNat]
def k1_off3 (i : grid1.Coords) (c0_i32_565 : BitVec 32) (c0_i32_563 : BitVec 32) : Fin 3 → Nat :=
  let arg0 : BitVec 32 := BitVec.ofNat 32 (i 0).val
  let v1170 : Index := Scalar.indexCast arg0
  let arg2 : BitVec 32 := BitVec.ofNat 32 (i 2).val
  let c2_i32_564 : BitVec 32 := 2#32
  let v1168 : BitVec 32 := Scalar.muli arg2 c2_i32_564
  let v1169 : BitVec 32 := Scalar.addi v1168 c0_i32_565
  let v1171 : Index := Scalar.indexCast v1169
  let arg1 : BitVec 32 := BitVec.ofNat 32 (i 1).val
  let c8_i32_562 : BitVec 32 := 8#32
  let v1166 : BitVec 32 := Scalar.muli arg1 c8_i32_562
  let v1167 : BitVec 32 := Scalar.addi v1166 c0_i32_563
  let v1172 : Index := Scalar.indexCast v1167
  ![v1170.toNat, v1171.toNat, v1172.toNat]
def k1_off4 (i : grid1.Coords) (k1_t1 : Fin (k1_t1_loop i).trips) (c0_i32_567 : BitVec 32) : Fin 3 → Nat :=
  let arg0 : BitVec 32 := BitVec.ofNat 32 (i 0).val
  let v1176 : Index := Scalar.indexCast arg0
  let c0_i32 : BitVec 32 := 0#32
  let c1_i32_9 : BitVec 32 := 1#32
  let arg16 : BitVec 32 := Scf.iv c0_i32 c1_i32_9 k1_t1
  let c2_i32_566 : BitVec 32 := 2#32
  let v1174 : BitVec 32 := Scalar.muli arg16 c2_i32_566
  let v1175 : BitVec 32 := Scalar.addi v1174 c0_i32_567
  let v1177 : Index := Scalar.indexCast v1175
  let arg1 : BitVec 32 := BitVec.ofNat 32 (i 1).val
  let v1178 : Index := Scalar.indexCast arg1
  ![v1176.toNat, v1177.toNat, v1178.toNat]
def k1_off5 (i : grid1.Coords) (k1_t1 : Fin (k1_t1_loop i).trips) : Fin 4 → Nat :=
  let c0_587 : Index := 0#32
  let c0_588 : Index := 0#32
  let c0_i32 : BitVec 32 := 0#32
  let c1_i32_9 : BitVec 32 := 1#32
  let arg16 : BitVec 32 := Scf.iv c0_i32 c1_i32_9 k1_t1
  let c256_i32_550 : BitVec 32 := 256#32
  let v1154 : BitVec 32 := Scalar.muli arg16 c256_i32_550
  let v1155 : BitVec 32 := v1154
  let v1241 : Index := Scalar.indexCast v1155
  let c0_589 : Index := 0#32
  ![0, 0, v1241.toNat, 0]
def k1_off6 (i : grid1.Coords) (k1_t1 : Fin (k1_t1_loop i).trips) : Fin 4 → Nat :=
  let c0_637 : Index := 0#32
  let c0_638 : Index := 0#32
  let c0_i32 : BitVec 32 := 0#32
  let c1_i32_9 : BitVec 32 := 1#32
  let arg16 : BitVec 32 := Scf.iv c0_i32 c1_i32_9 k1_t1
  let c256_i32_550 : BitVec 32 := 256#32
  let v1154 : BitVec 32 := Scalar.muli arg16 c256_i32_550
  let v1155 : BitVec 32 := v1154
  let v1356 : Index := Scalar.indexCast v1155
  let c1_639 : Index := 1#32
  ![0, 0, v1356.toNat, 1]
def k1_off7 (i : grid1.Coords) (k1_t1 : Fin (k1_t1_loop i).trips) : Fin 4 → Nat :=
  let c0_687 : Index := 0#32
  let c0_688 : Index := 0#32
  let c0_i32 : BitVec 32 := 0#32
  let c1_i32_9 : BitVec 32 := 1#32
  let arg16 : BitVec 32 := Scf.iv c0_i32 c1_i32_9 k1_t1
  let c256_i32_550 : BitVec 32 := 256#32
  let v1154 : BitVec 32 := Scalar.muli arg16 c256_i32_550
  let v1155 : BitVec 32 := v1154
  let v1471 : Index := Scalar.indexCast v1155
  let c2_689 : Index := 2#32
  ![0, 0, v1471.toNat, 2]
def k1_off8 (i : grid1.Coords) (k1_t1 : Fin (k1_t1_loop i).trips) : Fin 4 → Nat :=
  let c0_737 : Index := 0#32
  let c0_738 : Index := 0#32
  let c0_i32 : BitVec 32 := 0#32
  let c1_i32_9 : BitVec 32 := 1#32
  let arg16 : BitVec 32 := Scf.iv c0_i32 c1_i32_9 k1_t1
  let c256_i32_550 : BitVec 32 := 256#32
  let v1154 : BitVec 32 := Scalar.muli arg16 c256_i32_550
  let v1155 : BitVec 32 := v1154
  let v1586 : Index := Scalar.indexCast v1155
  let c3_739 : Index := 3#32
  ![0, 0, v1586.toNat, 3]
def k1_off9 (i : grid1.Coords) (k1_t1 : Fin (k1_t1_loop i).trips) : Fin 4 → Nat :=
  let c0_787 : Index := 0#32
  let c0_788 : Index := 0#32
  let c0_i32 : BitVec 32 := 0#32
  let c1_i32_9 : BitVec 32 := 1#32
  let arg16 : BitVec 32 := Scf.iv c0_i32 c1_i32_9 k1_t1
  let c256_i32_550 : BitVec 32 := 256#32
  let v1154 : BitVec 32 := Scalar.muli arg16 c256_i32_550
  let v1155 : BitVec 32 := v1154
  let v1701 : Index := Scalar.indexCast v1155
  let c4_789 : Index := 4#32
  ![0, 0, v1701.toNat, 4]
def k1_off10 (i : grid1.Coords) (k1_t1 : Fin (k1_t1_loop i).trips) : Fin 4 → Nat :=
  let c0_837 : Index := 0#32
  let c0_838 : Index := 0#32
  let c0_i32 : BitVec 32 := 0#32
  let c1_i32_9 : BitVec 32 := 1#32
  let arg16 : BitVec 32 := Scf.iv c0_i32 c1_i32_9 k1_t1
  let c256_i32_550 : BitVec 32 := 256#32
  let v1154 : BitVec 32 := Scalar.muli arg16 c256_i32_550
  let v1155 : BitVec 32 := v1154
  let v1816 : Index := Scalar.indexCast v1155
  let c5_839 : Index := 5#32
  ![0, 0, v1816.toNat, 5]
def k1_off11 (i : grid1.Coords) (k1_t1 : Fin (k1_t1_loop i).trips) : Fin 4 → Nat :=
  let c0_887 : Index := 0#32
  let c0_888 : Index := 0#32
  let c0_i32 : BitVec 32 := 0#32
  let c1_i32_9 : BitVec 32 := 1#32
  let arg16 : BitVec 32 := Scf.iv c0_i32 c1_i32_9 k1_t1
  let c256_i32_550 : BitVec 32 := 256#32
  let v1154 : BitVec 32 := Scalar.muli arg16 c256_i32_550
  let v1155 : BitVec 32 := v1154
  let v1931 : Index := Scalar.indexCast v1155
  let c6_889 : Index := 6#32
  ![0, 0, v1931.toNat, 6]
def k1_off12 (i : grid1.Coords) (k1_t1 : Fin (k1_t1_loop i).trips) : Fin 4 → Nat :=
  let c0_937 : Index := 0#32
  let c0_938 : Index := 0#32
  let c0_i32 : BitVec 32 := 0#32
  let c1_i32_9 : BitVec 32 := 1#32
  let arg16 : BitVec 32 := Scf.iv c0_i32 c1_i32_9 k1_t1
  let c256_i32_550 : BitVec 32 := 256#32
  let v1154 : BitVec 32 := Scalar.muli arg16 c256_i32_550
  let v1155 : BitVec 32 := v1154
  let v2046 : Index := Scalar.indexCast v1155
  let c7_939 : Index := 7#32
  ![0, 0, v2046.toNat, 7]
@[reducible] def k1_t2_loop (i : grid1.Coords) : Scf.Loop 32 :=
  let c0_i32 : BitVec 32 := 0#32
  let arg2 : BitVec 32 := BitVec.ofNat 32 (i 2).val
  let v14 : BitVec 32 := Scalar.subi arg2 c0_i32
  let c1_i32 : BitVec 32 := 1#32
  let v16 : BitVec 32 := Scalar.divsi v14 c1_i32
  let v17 : BitVec 32 := Scalar.muli v16 c1_i32
  let v18 : BitVec 32 := Scalar.addi c0_i32 v17
  let v15 : BitVec 32 := Scalar.addi c0_i32 v14
  let c1_i32_10 : BitVec 32 := 1#32
  ⟨v18, v15, c1_i32_10⟩
def k1_mult2 (i : grid1.Coords) (k1_t2 : Fin (k1_t2_loop i).trips) : BitVec 32 :=
  let c0_i32 : BitVec 32 := 0#32
  let arg2 : BitVec 32 := BitVec.ofNat 32 (i 2).val
  let v14 : BitVec 32 := Scalar.subi arg2 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_10 : BitVec 32 := 1#32
  let arg16 : BitVec 32 := Scf.iv v18 c1_i32_10 k1_t2
  let c256_i32_550 : BitVec 32 := 256#32
  let v1154 : BitVec 32 := Scalar.muli arg16 c256_i32_550
  v1154
def k1_off13 (i : grid1.Coords) (k1_t2 : Fin (k1_t2_loop i).trips) : Fin 4 → Nat :=
  let c0_551 : Index := 0#32
  let c0_552 : Index := 0#32
  let c0_i32 : BitVec 32 := 0#32
  let arg2 : BitVec 32 := BitVec.ofNat 32 (i 2).val
  let v14 : BitVec 32 := Scalar.subi arg2 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_10 : BitVec 32 := 1#32
  let arg16 : BitVec 32 := Scf.iv v18 c1_i32_10 k1_t2
  let c256_i32_550 : BitVec 32 := 256#32
  let v1154 : BitVec 32 := Scalar.muli arg16 c256_i32_550
  let v1155 : BitVec 32 := v1154
  let v1156 : Index := Scalar.indexCast v1155
  let c0_553 : Index := 0#32
  ![0, 0, v1156.toNat, 0]
def k1_off14 (i : grid1.Coords) (k1_t2 : Fin (k1_t2_loop i).trips) : Fin 4 → Nat :=
  let c0_554 : Index := 0#32
  let c0_555 : Index := 0#32
  let c0_556 : Index := 0#32
  let c0_i32 : BitVec 32 := 0#32
  let arg2 : BitVec 32 := BitVec.ofNat 32 (i 2).val
  let v14 : BitVec 32 := Scalar.subi arg2 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_10 : BitVec 32 := 1#32
  let arg16 : BitVec 32 := Scf.iv v18 c1_i32_10 k1_t2
  let c256_i32_550 : BitVec 32 := 256#32
  let v1154 : BitVec 32 := Scalar.muli arg16 c256_i32_550
  let v1155 : BitVec 32 := v1154
  let v1159 : Index := Scalar.indexCast v1155
  ![0, 0, 0, v1159.toNat]
def k1_off15 (i : grid1.Coords) (c0_i32_565 : BitVec 32) (c0_i32_563 : BitVec 32) : Fin 3 → Nat :=
  let arg0 : BitVec 32 := BitVec.ofNat 32 (i 0).val
  let v1170 : Index := Scalar.indexCast arg0
  let arg2 : BitVec 32 := BitVec.ofNat 32 (i 2).val
  let c2_i32_564 : BitVec 32 := 2#32
  let v1168 : BitVec 32 := Scalar.muli arg2 c2_i32_564
  let v1169 : BitVec 32 := Scalar.addi v1168 c0_i32_565
  let v1171 : Index := Scalar.indexCast v1169
  let arg1 : BitVec 32 := BitVec.ofNat 32 (i 1).val
  let c8_i32_562 : BitVec 32 := 8#32
  let v1166 : BitVec 32 := Scalar.muli arg1 c8_i32_562
  let v1167 : BitVec 32 := Scalar.addi v1166 c0_i32_563
  let v1172 : Index := Scalar.indexCast v1167
  ![v1170.toNat, v1171.toNat, v1172.toNat]
def k1_off16 (i : grid1.Coords) (k1_t2 : Fin (k1_t2_loop i).trips) (c0_i32_567 : BitVec 32) : Fin 3 → Nat :=
  let arg0 : BitVec 32 := BitVec.ofNat 32 (i 0).val
  let v1176 : Index := Scalar.indexCast arg0
  let c0_i32 : BitVec 32 := 0#32
  let arg2 : BitVec 32 := BitVec.ofNat 32 (i 2).val
  let v14 : BitVec 32 := Scalar.subi arg2 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_10 : BitVec 32 := 1#32
  let arg16 : BitVec 32 := Scf.iv v18 c1_i32_10 k1_t2
  let c2_i32_566 : BitVec 32 := 2#32
  let v1174 : BitVec 32 := Scalar.muli arg16 c2_i32_566
  let v1175 : BitVec 32 := Scalar.addi v1174 c0_i32_567
  let v1177 : Index := Scalar.indexCast v1175
  let arg1 : BitVec 32 := BitVec.ofNat 32 (i 1).val
  let v1178 : Index := Scalar.indexCast arg1
  ![v1176.toNat, v1177.toNat, v1178.toNat]
def k1_off17 (i : grid1.Coords) (k1_t2 : Fin (k1_t2_loop i).trips) : Fin 4 → Nat :=
  let c0_587 : Index := 0#32
  let c0_588 : Index := 0#32
  let c0_i32 : BitVec 32 := 0#32
  let arg2 : BitVec 32 := BitVec.ofNat 32 (i 2).val
  let v14 : BitVec 32 := Scalar.subi arg2 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_10 : BitVec 32 := 1#32
  let arg16 : BitVec 32 := Scf.iv v18 c1_i32_10 k1_t2
  let c256_i32_550 : BitVec 32 := 256#32
  let v1154 : BitVec 32 := Scalar.muli arg16 c256_i32_550
  let v1155 : BitVec 32 := v1154
  let v1241 : Index := Scalar.indexCast v1155
  let c0_589 : Index := 0#32
  ![0, 0, v1241.toNat, 0]
def k1_off18 (i : grid1.Coords) (k1_t2 : Fin (k1_t2_loop i).trips) : Fin 4 → Nat :=
  let c0_637 : Index := 0#32
  let c0_638 : Index := 0#32
  let c0_i32 : BitVec 32 := 0#32
  let arg2 : BitVec 32 := BitVec.ofNat 32 (i 2).val
  let v14 : BitVec 32 := Scalar.subi arg2 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_10 : BitVec 32 := 1#32
  let arg16 : BitVec 32 := Scf.iv v18 c1_i32_10 k1_t2
  let c256_i32_550 : BitVec 32 := 256#32
  let v1154 : BitVec 32 := Scalar.muli arg16 c256_i32_550
  let v1155 : BitVec 32 := v1154
  let v1356 : Index := Scalar.indexCast v1155
  let c1_639 : Index := 1#32
  ![0, 0, v1356.toNat, 1]
def k1_off19 (i : grid1.Coords) (k1_t2 : Fin (k1_t2_loop i).trips) : Fin 4 → Nat :=
  let c0_687 : Index := 0#32
  let c0_688 : Index := 0#32
  let c0_i32 : BitVec 32 := 0#32
  let arg2 : BitVec 32 := BitVec.ofNat 32 (i 2).val
  let v14 : BitVec 32 := Scalar.subi arg2 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_10 : BitVec 32 := 1#32
  let arg16 : BitVec 32 := Scf.iv v18 c1_i32_10 k1_t2
  let c256_i32_550 : BitVec 32 := 256#32
  let v1154 : BitVec 32 := Scalar.muli arg16 c256_i32_550
  let v1155 : BitVec 32 := v1154
  let v1471 : Index := Scalar.indexCast v1155
  let c2_689 : Index := 2#32
  ![0, 0, v1471.toNat, 2]
def k1_off20 (i : grid1.Coords) (k1_t2 : Fin (k1_t2_loop i).trips) : Fin 4 → Nat :=
  let c0_737 : Index := 0#32
  let c0_738 : Index := 0#32
  let c0_i32 : BitVec 32 := 0#32
  let arg2 : BitVec 32 := BitVec.ofNat 32 (i 2).val
  let v14 : BitVec 32 := Scalar.subi arg2 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_10 : BitVec 32 := 1#32
  let arg16 : BitVec 32 := Scf.iv v18 c1_i32_10 k1_t2
  let c256_i32_550 : BitVec 32 := 256#32
  let v1154 : BitVec 32 := Scalar.muli arg16 c256_i32_550
  let v1155 : BitVec 32 := v1154
  let v1586 : Index := Scalar.indexCast v1155
  let c3_739 : Index := 3#32
  ![0, 0, v1586.toNat, 3]
def k1_off21 (i : grid1.Coords) (k1_t2 : Fin (k1_t2_loop i).trips) : Fin 4 → Nat :=
  let c0_787 : Index := 0#32
  let c0_788 : Index := 0#32
  let c0_i32 : BitVec 32 := 0#32
  let arg2 : BitVec 32 := BitVec.ofNat 32 (i 2).val
  let v14 : BitVec 32 := Scalar.subi arg2 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_10 : BitVec 32 := 1#32
  let arg16 : BitVec 32 := Scf.iv v18 c1_i32_10 k1_t2
  let c256_i32_550 : BitVec 32 := 256#32
  let v1154 : BitVec 32 := Scalar.muli arg16 c256_i32_550
  let v1155 : BitVec 32 := v1154
  let v1701 : Index := Scalar.indexCast v1155
  let c4_789 : Index := 4#32
  ![0, 0, v1701.toNat, 4]
def k1_off22 (i : grid1.Coords) (k1_t2 : Fin (k1_t2_loop i).trips) : Fin 4 → Nat :=
  let c0_837 : Index := 0#32
  let c0_838 : Index := 0#32
  let c0_i32 : BitVec 32 := 0#32
  let arg2 : BitVec 32 := BitVec.ofNat 32 (i 2).val
  let v14 : BitVec 32 := Scalar.subi arg2 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_10 : BitVec 32 := 1#32
  let arg16 : BitVec 32 := Scf.iv v18 c1_i32_10 k1_t2
  let c256_i32_550 : BitVec 32 := 256#32
  let v1154 : BitVec 32 := Scalar.muli arg16 c256_i32_550
  let v1155 : BitVec 32 := v1154
  let v1816 : Index := Scalar.indexCast v1155
  let c5_839 : Index := 5#32
  ![0, 0, v1816.toNat, 5]
def k1_off23 (i : grid1.Coords) (k1_t2 : Fin (k1_t2_loop i).trips) : Fin 4 → Nat :=
  let c0_887 : Index := 0#32
  let c0_888 : Index := 0#32
  let c0_i32 : BitVec 32 := 0#32
  let arg2 : BitVec 32 := BitVec.ofNat 32 (i 2).val
  let v14 : BitVec 32 := Scalar.subi arg2 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_10 : BitVec 32 := 1#32
  let arg16 : BitVec 32 := Scf.iv v18 c1_i32_10 k1_t2
  let c256_i32_550 : BitVec 32 := 256#32
  let v1154 : BitVec 32 := Scalar.muli arg16 c256_i32_550
  let v1155 : BitVec 32 := v1154
  let v1931 : Index := Scalar.indexCast v1155
  let c6_889 : Index := 6#32
  ![0, 0, v1931.toNat, 6]
def k1_off24 (i : grid1.Coords) (k1_t2 : Fin (k1_t2_loop i).trips) : Fin 4 → Nat :=
  let c0_937 : Index := 0#32
  let c0_938 : Index := 0#32
  let c0_i32 : BitVec 32 := 0#32
  let arg2 : BitVec 32 := BitVec.ofNat 32 (i 2).val
  let v14 : BitVec 32 := Scalar.subi arg2 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_10 : BitVec 32 := 1#32
  let arg16 : BitVec 32 := Scf.iv v18 c1_i32_10 k1_t2
  let c256_i32_550 : BitVec 32 := 256#32
  let v1154 : BitVec 32 := Scalar.muli arg16 c256_i32_550
  let v1155 : BitVec 32 := v1154
  let v2046 : Index := Scalar.indexCast v1155
  let c7_939 : Index := 7#32
  ![0, 0, v2046.toNat, 7]
def k1_mult3 (i : grid1.Coords) : BitVec 32 :=
  let arg2 : BitVec 32 := BitVec.ofNat 32 (i 2).val
  let c256_i32 : BitVec 32 := 256#32
  let v21 : BitVec 32 := Scalar.muli arg2 c256_i32
  v21
def k1_off25 (i : grid1.Coords) : Fin 4 → Nat :=
  let c0_11 : Index := 0#32
  let c0_12 : Index := 0#32
  let arg2 : BitVec 32 := BitVec.ofNat 32 (i 2).val
  let c256_i32 : BitVec 32 := 256#32
  let v21 : BitVec 32 := Scalar.muli arg2 c256_i32
  let v22 : BitVec 32 := v21
  let v23 : Index := Scalar.indexCast v22
  let c0_13 : Index := 0#32
  ![0, 0, v23.toNat, 0]
def k1_off26 (i : grid1.Coords) : Fin 4 → Nat :=
  let c0_14 : Index := 0#32
  let c0_15 : Index := 0#32
  let c0_16 : Index := 0#32
  let arg2 : BitVec 32 := BitVec.ofNat 32 (i 2).val
  let c256_i32 : BitVec 32 := 256#32
  let v21 : BitVec 32 := Scalar.muli arg2 c256_i32
  let v22 : BitVec 32 := v21
  let v26 : Index := Scalar.indexCast v22
  ![0, 0, 0, v26.toNat]
def k1_off27 (i : grid1.Coords) (c0_i32_23 : BitVec 32) (c0_i32_22 : BitVec 32) : Fin 3 → Nat :=
  let arg0 : BitVec 32 := BitVec.ofNat 32 (i 0).val
  let v37 : Index := Scalar.indexCast arg0
  let arg2 : BitVec 32 := BitVec.ofNat 32 (i 2).val
  let c2_i32 : BitVec 32 := 2#32
  let v35 : BitVec 32 := Scalar.muli arg2 c2_i32
  let v36 : BitVec 32 := Scalar.addi v35 c0_i32_23
  let v38 : Index := Scalar.indexCast v36
  let arg1 : BitVec 32 := BitVec.ofNat 32 (i 1).val
  let c8_i32 : BitVec 32 := 8#32
  let v33 : BitVec 32 := Scalar.muli arg1 c8_i32
  let v34 : BitVec 32 := Scalar.addi v33 c0_i32_22
  let v39 : Index := Scalar.indexCast v34
  ![v37.toNat, v38.toNat, v39.toNat]
def k1_off28 (i : grid1.Coords) (c0_i32_25 : BitVec 32) : Fin 3 → Nat :=
  let arg0 : BitVec 32 := BitVec.ofNat 32 (i 0).val
  let v43 : Index := Scalar.indexCast arg0
  let arg2 : BitVec 32 := BitVec.ofNat 32 (i 2).val
  let c2_i32_24 : BitVec 32 := 2#32
  let v41 : BitVec 32 := Scalar.muli arg2 c2_i32_24
  let v42 : BitVec 32 := Scalar.addi v41 c0_i32_25
  let v44 : Index := Scalar.indexCast v42
  let arg1 : BitVec 32 := BitVec.ofNat 32 (i 1).val
  let v45 : Index := Scalar.indexCast arg1
  ![v43.toNat, v44.toNat, v45.toNat]
def k1_off29 (i : grid1.Coords) : Fin 4 → Nat :=
  let c0_45 : Index := 0#32
  let c0_46 : Index := 0#32
  let arg2 : BitVec 32 := BitVec.ofNat 32 (i 2).val
  let c256_i32 : BitVec 32 := 256#32
  let v21 : BitVec 32 := Scalar.muli arg2 c256_i32
  let v22 : BitVec 32 := v21
  let v108 : Index := Scalar.indexCast v22
  let c0_47 : Index := 0#32
  ![0, 0, v108.toNat, 0]
def k1_off30 (i : grid1.Coords) : Fin 4 → Nat :=
  let c0_95 : Index := 0#32
  let c0_96 : Index := 0#32
  let arg2 : BitVec 32 := BitVec.ofNat 32 (i 2).val
  let c256_i32 : BitVec 32 := 256#32
  let v21 : BitVec 32 := Scalar.muli arg2 c256_i32
  let v22 : BitVec 32 := v21
  let v226 : Index := Scalar.indexCast v22
  let c1_97 : Index := 1#32
  ![0, 0, v226.toNat, 1]
def k1_off31 (i : grid1.Coords) : Fin 4 → Nat :=
  let c0_145 : Index := 0#32
  let c0_146 : Index := 0#32
  let arg2 : BitVec 32 := BitVec.ofNat 32 (i 2).val
  let c256_i32 : BitVec 32 := 256#32
  let v21 : BitVec 32 := Scalar.muli arg2 c256_i32
  let v22 : BitVec 32 := v21
  let v344 : Index := Scalar.indexCast v22
  let c2_147 : Index := 2#32
  ![0, 0, v344.toNat, 2]
def k1_off32 (i : grid1.Coords) : Fin 4 → Nat :=
  let c0_194 : Index := 0#32
  let c0_195 : Index := 0#32
  let arg2 : BitVec 32 := BitVec.ofNat 32 (i 2).val
  let c256_i32 : BitVec 32 := 256#32
  let v21 : BitVec 32 := Scalar.muli arg2 c256_i32
  let v22 : BitVec 32 := v21
  let v462 : Index := Scalar.indexCast v22
  let c3_196 : Index := 3#32
  ![0, 0, v462.toNat, 3]
def k1_off33 (i : grid1.Coords) : Fin 4 → Nat :=
  let c0_243 : Index := 0#32
  let c0_244 : Index := 0#32
  let arg2 : BitVec 32 := BitVec.ofNat 32 (i 2).val
  let c256_i32 : BitVec 32 := 256#32
  let v21 : BitVec 32 := Scalar.muli arg2 c256_i32
  let v22 : BitVec 32 := v21
  let v580 : Index := Scalar.indexCast v22
  let c4_245 : Index := 4#32
  ![0, 0, v580.toNat, 4]
def k1_off34 (i : grid1.Coords) : Fin 4 → Nat :=
  let c0_292 : Index := 0#32
  let c0_293 : Index := 0#32
  let arg2 : BitVec 32 := BitVec.ofNat 32 (i 2).val
  let c256_i32 : BitVec 32 := 256#32
  let v21 : BitVec 32 := Scalar.muli arg2 c256_i32
  let v22 : BitVec 32 := v21
  let v698 : Index := Scalar.indexCast v22
  let c5_294 : Index := 5#32
  ![0, 0, v698.toNat, 5]
def k1_off35 (i : grid1.Coords) : Fin 4 → Nat :=
  let c0_341 : Index := 0#32
  let c0_342 : Index := 0#32
  let arg2 : BitVec 32 := BitVec.ofNat 32 (i 2).val
  let c256_i32 : BitVec 32 := 256#32
  let v21 : BitVec 32 := Scalar.muli arg2 c256_i32
  let v22 : BitVec 32 := v21
  let v816 : Index := Scalar.indexCast v22
  let c6_343 : Index := 6#32
  ![0, 0, v816.toNat, 6]
def k1_off36 (i : grid1.Coords) : Fin 4 → Nat :=
  let c0_390 : Index := 0#32
  let c0_391 : Index := 0#32
  let arg2 : BitVec 32 := BitVec.ofNat 32 (i 2).val
  let c256_i32 : BitVec 32 := 256#32
  let v21 : BitVec 32 := Scalar.muli arg2 c256_i32
  let v22 : BitVec 32 := v21
  let v934 : Index := Scalar.indexCast v22
  let c7_392 : Index := 7#32
  ![0, 0, v934.toNat, 7]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_6 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_9 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage1_0 : Fin 1 → Memref sig .tc .smem S6x32x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 1 → Memref sig .tc .smem S6x32x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 2 → Memref sig .tc .vmem S1x8x256x96 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1x4096x96 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x1x96x4096 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1x8x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S1x1x4096x8 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev stage1_7 : Fin 2 → Memref sig .tc .vmem S1x1x96x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev stage1_8 : Fin 2 → Memref sig .tc .vmem S1x256x768 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, true]

abbrev stage1_9 : Fin 2 → Memref sig .tc .vmem S1x1x8x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true, true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "masked" => some ⊥
  | "score_scale" => some ((((Real.log 2) * (Real.sqrt 96))⁻¹ : ℝ) : EReal)
  | _ => none
-- ==== ReferenceIdeal.lean ====
abbrev S6x4096x16x96 : Shape := ⟨4, ![6, 4096, 16, 96]⟩
abbrev S6x32x16 : Shape := ⟨3, ![6, 32, 16]⟩
abbrev S6x4096x2x96 : Shape := ⟨4, ![6, 4096, 2, 96]⟩
abbrev S6x32x2 : Shape := ⟨3, ![6, 32, 2]⟩
abbrev S6x2x96 : Shape := ⟨3, ![6, 2, 96]⟩
abbrev S6x4096x16 : Shape := ⟨3, ![6, 4096, 16]⟩
abbrev S_ : Shape := ⟨0, ![]⟩
abbrev S6x4096x2x8 : Shape := ⟨4, ![6, 4096, 2, 8]⟩
abbrev S6x2x8x4096 : Shape := ⟨4, ![6, 2, 8, 4096]⟩
abbrev S6x4096x2x8x96 : Shape := ⟨5, ![6, 4096, 2, 8, 96]⟩
abbrev S6x32x128x16 : Shape := ⟨4, ![6, 32, 128, 16]⟩
abbrev S6x32x128x2 : Shape := ⟨4, ![6, 32, 128, 2]⟩
abbrev S6x4096x2 : Shape := ⟨3, ![6, 4096, 2]⟩
abbrev S6x2x4096 : Shape := ⟨3, ![6, 2, 4096]⟩
abbrev S6x2x4096x4096x8 : Shape := ⟨5, ![6, 2, 4096, 4096, 8]⟩
abbrev S6x2x8x4096x4096 : Shape := ⟨5, ![6, 2, 8, 4096, 4096]⟩
abbrev S6x2x8x4096x1 : Shape := ⟨5, ![6, 2, 8, 4096, 1]⟩
abbrev S6x2x1x1x4096 : Shape := ⟨5, ![6, 2, 1, 1, 4096]⟩
abbrev S6x2x8x1x4096 : Shape := ⟨5, ![6, 2, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S6x2x96x8x4096 : Shape := ⟨5, ![6, 2, 96, 8, 4096]⟩
abbrev S6x1x2x1x96 : Shape := ⟨5, ![6, 1, 2, 1, 96]⟩
abbrev S6x4096x1536 : Shape := ⟨3, ![6, 4096, 1536]⟩

abbrev nBuf : Space → Nat
  | .hbm => 97
  | .vmem => 6
  | .smem => 0
  | _ => 0

abbrev bufTy : (tb : Table) → Fin (tcTables nBuf tb) → BufTy
  | .hbm, ⟨0, _⟩ => ⟨S6x4096x16x96, .fp8e4m3⟩
  | .hbm, ⟨1, _⟩ => ⟨S6x32x16, .f32⟩
  | .hbm, ⟨2, _⟩ => ⟨S6x4096x2x96, .fp8e4m3⟩
  | .hbm, ⟨3, _⟩ => ⟨S6x32x2, .f32⟩
  | .hbm, ⟨4, _⟩ => ⟨S6x4096x2x96, .fp8e4m3⟩
  | .hbm, ⟨5, _⟩ => ⟨S6x2x96, .f32⟩
  | .hbm, ⟨6, _⟩ => ⟨S6x4096x16, .f32⟩
  | .hbm, ⟨7, _⟩ => ⟨S6x4096x16x96, .f32⟩
  | .hbm, ⟨8, _⟩ => ⟨S6x4096x2x96, .f32⟩
  | .hbm, ⟨9, _⟩ => ⟨S6x4096x2x96, .bf16⟩
  | .hbm, ⟨10, _⟩ => ⟨S6x4096x16, .f32⟩
  | .hbm, ⟨11, _⟩ => ⟨S_, .f32⟩
  | .hbm, ⟨12, _⟩ => ⟨S6x4096x16, .f32⟩
  | .hbm, ⟨13, _⟩ => ⟨S6x4096x16, .f32⟩
  | .hbm, ⟨14, _⟩ => ⟨S6x4096x16, .f32⟩
  | .hbm, ⟨15, _⟩ => ⟨S6x4096x16, .f32⟩
  | .hbm, ⟨16, _⟩ => ⟨S6x4096x16, .i1⟩
  | .hbm, ⟨17, _⟩ => ⟨S6x4096x16, .f32⟩
  | .hbm, ⟨18, _⟩ => ⟨S6x4096x16, .f32⟩
  | .hbm, ⟨19, _⟩ => ⟨S6x4096x16, .f32⟩
  | .hbm, ⟨20, _⟩ => ⟨S6x4096x16, .f32⟩
  | .hbm, ⟨21, _⟩ => ⟨S6x4096x16, .f32⟩
  | .hbm, ⟨22, _⟩ => ⟨S6x4096x16, .f32⟩
  | .hbm, ⟨23, _⟩ => ⟨S6x4096x16, .f32⟩
  | .hbm, ⟨24, _⟩ => ⟨S6x4096x16, .f32⟩
  | .hbm, ⟨25, _⟩ => ⟨S6x4096x16, .f32⟩
  | .hbm, ⟨26, _⟩ => ⟨S_, .f32⟩
  | .hbm, ⟨27, _⟩ => ⟨S_, .f32⟩
  | .hbm, ⟨28, _⟩ => ⟨S6x4096x16, .f32⟩
  | .hbm, ⟨29, _⟩ => ⟨S6x4096x2x8, .f32⟩
  | .hbm, ⟨30, _⟩ => ⟨S6x2x8x4096, .f32⟩
  | .hbm, ⟨31, _⟩ => ⟨S6x4096x2x8x96, .f32⟩
  | .hbm, ⟨32, _⟩ => ⟨S6x32x128x16, .f32⟩
  | .hbm, ⟨33, _⟩ => ⟨S6x4096x16, .f32⟩
  | .hbm, ⟨34, _⟩ => ⟨S6x4096x2x8, .f32⟩
  | .hbm, ⟨35, _⟩ => ⟨S6x2x8x4096, .f32⟩
  | .hbm, ⟨36, _⟩ => ⟨S6x32x128x2, .f32⟩
  | .hbm, ⟨37, _⟩ => ⟨S6x4096x2, .f32⟩
  | .hbm, ⟨38, _⟩ => ⟨S6x2x4096, .f32⟩
  | .hbm, ⟨39, _⟩ => ⟨S6x2x4096x4096x8, .f32⟩
  | .hbm, ⟨40, _⟩ => ⟨S6x2x8x4096x4096, .f32⟩
  | .hbm, ⟨41, _⟩ => ⟨S6x2x8x4096x1, .f32⟩
  | .hbm, ⟨42, _⟩ => ⟨S6x2x1x1x4096, .f32⟩
  | .hbm, ⟨43, _⟩ => ⟨S6x2x8x4096x4096, .f32⟩
  | .hbm, ⟨44, _⟩ => ⟨S6x2x8x4096x4096, .f32⟩
  | .hbm, ⟨45, _⟩ => ⟨S6x2x8x4096x4096, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S6x2x8x4096x4096, .f32⟩
  | .hbm, ⟨51, _⟩ => ⟨S6x2x8x4096x4096, .f32⟩
  | .hbm, ⟨52, _⟩ => ⟨S6x2x8x4096x4096, .f32⟩
  | .hbm, ⟨53, _⟩ => ⟨S6x2x8x4096x1, .f32⟩
  | .hbm, ⟨54, _⟩ => ⟨S6x2x8x1x4096, .f32⟩
  | .hbm, ⟨55, _⟩ => ⟨S6x2x8x4096x4096, .f32⟩
  | .hbm, ⟨56, _⟩ => ⟨S6x2x8x4096x4096, .f32⟩
  | .hbm, ⟨57, _⟩ => ⟨S6x2x8x4096x4096, .f32⟩
  | .hbm, ⟨58, _⟩ => ⟨S6x2x8x4096x4096, .f32⟩
  | .hbm, ⟨59, _⟩ => ⟨S4096, .i32⟩
  | .hbm, ⟨60, _⟩ => ⟨S1x4096, .i32⟩
  | .hbm, ⟨61, _⟩ => ⟨S4096x1, .i32⟩
  | .hbm, ⟨62, _⟩ => ⟨S4096x4096, .i32⟩
  | .hbm, ⟨63, _⟩ => ⟨S4096x4096, .i32⟩
  | .hbm, ⟨64, _⟩ => ⟨S4096x4096, .i1⟩
  | .hbm, ⟨65, _⟩ => ⟨S_, .f32⟩
  | .hbm, ⟨66, _⟩ => ⟨S_, .f32⟩
  | .hbm, ⟨67, _⟩ => ⟨S6x2x8x4096x4096, .i1⟩
  | .hbm, ⟨68, _⟩ => ⟨S6x2x8x4096x4096, .f32⟩
  | .hbm, ⟨69, _⟩ => ⟨S6x2x8x4096x4096, .f32⟩
  | .hbm, ⟨70, _⟩ => ⟨S_, .f32⟩
  | .hbm, ⟨71, _⟩ => ⟨S6x2x8x4096, .f32⟩
  | .hbm, ⟨72, _⟩ => ⟨S6x2x8x4096x1, .f32⟩
  | .hbm, ⟨73, _⟩ => ⟨S6x2x8x4096x4096, .f32⟩
  | .hbm, ⟨74, _⟩ => ⟨S6x2x8x4096x4096, .f32⟩
  | .hbm, ⟨75, _⟩ => ⟨S6x2x8x4096x4096, .f32⟩
  | .hbm, ⟨76, _⟩ => ⟨S_, .f32⟩
  | .hbm, ⟨77, _⟩ => ⟨S6x2x8x4096, .f32⟩
  | .hbm, ⟨78, _⟩ => ⟨S6x2x8x4096, .f32⟩
  | .hbm, ⟨79, _⟩ => ⟨S6x2x8x4096, .f32⟩
  | .hbm, ⟨80, _⟩ => ⟨S6x2x8x4096x1, .f32⟩
  | .hbm, ⟨81, _⟩ => ⟨S6x2x8x4096x4096, .f32⟩
  | .hbm, ⟨82, _⟩ => ⟨S6x2x8x4096x4096, .f32⟩
  | .hbm, ⟨83, _⟩ => ⟨S6x2x8x4096x1, .f32⟩
  | .hbm, ⟨84, _⟩ => ⟨S6x2x8x4096x4096, .f32⟩
  | .hbm, ⟨85, _⟩ => ⟨S6x2x8x4096x4096, .f32⟩
  | .hbm, ⟨86, _⟩ => ⟨S6x2x8x4096x4096, .f32⟩
  | .hbm, ⟨87, _⟩ => ⟨S6x2x8x4096x4096, .bf16⟩
  | .hbm, ⟨88, _⟩ => ⟨S6x2x96x8x4096, .f32⟩
  | .hbm, ⟨89, _⟩ => ⟨S6x4096x2x8x96, .f32⟩
  | .hbm, ⟨90, _⟩ => ⟨S6x1x2x1x96, .f32⟩
  | .hbm, ⟨91, _⟩ => ⟨S6x4096x2x8x96, .f32⟩
  | .hbm, ⟨92, _⟩ => ⟨S6x4096x2x8x96, .f32⟩
  | .hbm, ⟨93, _⟩ => ⟨S6x4096x2x8x96, .bf16⟩
  | .hbm, ⟨94, _⟩ => ⟨S6x4096x1536, .bf16⟩
  | .hbm, ⟨95, _⟩ => ⟨S6x4096x2x8, .f32⟩
  | .hbm, ⟨96, _⟩ => ⟨S6x4096x16, .f32⟩
  | .local _ .vmem, ⟨0, _⟩ => ⟨S6x4096x16x96, .fp8e4m3⟩
  | .local _ .vmem, ⟨1, _⟩ => ⟨S6x4096x2x96, .fp8e4m3⟩
  | .local _ .vmem, ⟨2, _⟩ => ⟨S6x4096x2x96, .fp8e4m3⟩
  | .local _ .vmem, ⟨3, _⟩ => ⟨S6x4096x16x96, .f32⟩
  | .local _ .vmem, ⟨4, _⟩ => ⟨S6x4096x2x96, .f32⟩
  | .local _ .vmem, ⟨5, _⟩ => ⟨S6x4096x2x96, .bf16⟩
  | _, _ => ⟨S6x4096x16x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_0 : Ref sig .tc := ⟨.hbm, 46, rfl⟩
abbrev main_v34 : Ref sig .tc := ⟨.hbm, 47, rfl⟩
abbrev main_cst_1 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_2 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v51 : Ref sig .tc := ⟨.hbm, 69, rfl⟩
abbrev main_cst_3 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_4 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6x4096x16x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x4096x2x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x4096x2x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x4096x16x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x4096x2x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x4096x2x96 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Online.lean ====
/-
  The arithmetic of the online softmax on the extended reals, with no program in sight.

  `S j` is the base-two score of key `j` against one query, `V j` one coordinate of its value. After the first `N` keys the
  running maximum, the running sum and the running weighted sum are `mx S N`, `ls S N`, `ov S V N`; the lemmas say how they
  move when `n` more keys are taken, what they are when the remaining scores are `⊥`, and what the normalised results are in
  base `e`. Every statement holds for arbitrary extended real scores and values.
-/
module

public import Idealize.ShloMosaic.PureOps.Ideal
public import Idealize.ShloMosaic.PureOps.Ideal.Laws

@[expose] public section

noncomputable section

open Idealize.ShloMosaic

namespace Cert.Online

/-! ## Products with a nonnegative real -/

/-- A product with a nonnegative real distributes over a sum. -/
theorem add_mul_real {c : ℝ} (hc : 0 ≤ c) (x y : EReal) : (x + y) * (c : EReal) = x * c + y * c := by
  rw [mul_comm, EReal.left_distrib_of_nonneg_of_ne_top (by exact_mod_cast hc) (EReal.coe_ne_top c), mul_comm, mul_comm y]

/-- A product with a nonnegative real distributes over a difference. -/
theorem sub_mul_real {c : ℝ} (hc : 0 ≤ c) (x y : EReal) : (x - y) * (c : EReal) = x * c - y * c := by
  rw [sub_eq_add_neg, add_mul_real hc, sub_eq_add_neg, EReal.neg_mul]

/-- A product with a nonnegative real distributes over a finite sum. -/
theorem sum_mul_real {ι : Type*} {c : ℝ} (hc : 0 ≤ c) (K : Finset ι) (f : ι → EReal) :
    (∑ j ∈ K, f j) * (c : EReal) = ∑ j ∈ K, f j * c := by
  classical
  induction K using Finset.induction_on with
  | empty => simp
  | insert a K ha ih => rw [Finset.sum_insert ha, Finset.sum_insert ha, add_mul_real hc, ih]

/-- A product with a nonnegative real distributes over a maximum. -/
theorem max_mul_real {c : ℝ} (hc : 0 ≤ c) (x y : EReal) : max x y * (c : EReal) = max (x * c) (y * c) := by
  have h : Monotone fun x : EReal => x * (c : EReal) := fun a b hab => mul_le_mul_of_nonneg_right hab (by exact_mod_cast hc)
  exact h.map_max

/-! ## The base-two exponential -/

/-- The exponential of a nonpositive extended real is a nonnegative real. -/
theorem exp2_real {x : EReal} (h : x ≤ 0) : ∃ r : ℝ, 0 ≤ r ∧ Ideal.exp2 x = (r : EReal) := by
  induction x with
  | bot => exact ⟨0, le_rfl, rfl⟩
  | top => exact absurd h (by simp)
  | coe r => exact ⟨_, Real.rpow_nonneg (by norm_num) r, rfl⟩

theorem sub_nonpos' {a b : EReal} (h : a ≤ b) : a - b ≤ 0 := by
  induction a <;> induction b <;> simp_all [← EReal.coe_sub]

/-- Rescaling a weight from the maximum `a` to the larger maximum `b`. -/
theorem exp2_rescale {s a b : EReal} (h : s ≤ a) (h' : a ≤ b) :
    Ideal.exp2 (s - a) * Ideal.exp2 (a - b) = Ideal.exp2 (s - b) := by
  induction a with
  | bot => obtain rfl : s = ⊥ := le_bot_iff.1 h; simp
  | top => obtain rfl : b = ⊤ := top_le_iff.1 h'; simp
  | coe a =>
    induction b with
    | bot => simp at h'
    | top => simp
    | coe b =>
      induction s with
      | bot => simp
      | top => simp at h
      | coe s =>
        rw [← EReal.coe_sub, ← EReal.coe_sub, ← EReal.coe_sub, Ideal.exp2_coe, Ideal.exp2_coe, Ideal.exp2_coe, ← EReal.coe_mul]
        congr 1
        change (2 : ℝ) ^ (s - a) * 2 ^ (a - b) = 2 ^ (s - b)
        rw [← Real.rpow_add (by norm_num)]
        congr 1; ring

/-! ## The running maximum, sum and weighted sum -/

/-- The running maximum over the first `N` keys. -/
def mx (S : ℕ → EReal) (N : ℕ) : EReal := (Finset.range N).sup S

/-- The running sum of the weights of the first `N` keys. -/
def ls (S : ℕ → EReal) (N : ℕ) : EReal := ∑ j ∈ Finset.range N, Ideal.exp2 (S j - mx S N)

/-- The running weighted sum over the first `N` keys. -/
def ov (S V : ℕ → EReal) (N : ℕ) : EReal := ∑ j ∈ Finset.range N, V j * Ideal.exp2 (S j - mx S N)

theorem mx_zero (S : ℕ → EReal) : mx S 0 = ⊥ := rfl
theorem ls_zero (S : ℕ → EReal) : ls S 0 = 0 := rfl
theorem ov_zero (S V : ℕ → EReal) : ov S V 0 = 0 := rfl

theorem le_mx {S : ℕ → EReal} {N j : ℕ} (h : j < N) : S j ≤ mx S N := Finset.le_sup (f := S) (Finset.mem_range.2 h)

/-- The running maximum after `n` more keys. -/
theorem mx_add (S : ℕ → EReal) (N n : ℕ) :
    mx S (N + n) = max (mx S N) (Finset.univ.sup fun j : Fin n => S (N + j)) := by
  apply le_antisymm
  · refine Finset.sup_le fun j hj => ?_
    rcases lt_or_ge j N with h | h
    · exact le_max_of_le_left (le_mx h)
    · refine le_max_of_le_right ?_
      have hj' : j - N < n := by have := Finset.mem_range.1 hj; omega
      have := Finset.le_sup (f := fun j : Fin n => S (N + j)) (Finset.mem_univ ⟨j - N, hj'⟩)
      simpa [Nat.add_sub_cancel' h] using this
  · refine max_le (Finset.sup_le fun j hj => le_mx ?_) (Finset.sup_le fun j _ => le_mx ?_)
    · have := Finset.mem_range.1 hj; omega
    · omega

theorem mx_le_add (S : ℕ → EReal) (N n : ℕ) : mx S N ≤ mx S (N + n) := by rw [mx_add]; exact le_max_left _ _

/-- The running weighted sum after `n` more keys: the old one rescaled to the new maximum, plus the new terms. -/
theorem ov_add (S V : ℕ → EReal) (N n : ℕ) :
    ov S V (N + n) = ov S V N * Ideal.exp2 (mx S N - mx S (N + n))
      + ∑ j : Fin n, V (N + j) * Ideal.exp2 (S (N + j) - mx S (N + n)) := by
  obtain ⟨r, hr, e⟩ := exp2_real (sub_nonpos' (mx_le_add S N n))
  rw [ov, Finset.sum_range_add, ov, Finset.sum_range (n := n)]
  congr 1
  rw [e, sum_mul_real hr]
  refine Finset.sum_congr rfl fun j hj => ?_
  rw [← e, mul_assoc, exp2_rescale (le_mx (Finset.mem_range.1 hj)) (mx_le_add S N n)]

theorem ls_eq_ov (S : ℕ → EReal) (N : ℕ) : ls S N = ov S (fun _ => 1) N := by simp [ls, ov]

/-- The running sum after `n` more keys. -/
theorem ls_add (S : ℕ → EReal) (N n : ℕ) :
    ls S (N + n) = ls S N * Ideal.exp2 (mx S N - mx S (N + n)) + ∑ j : Fin n, Ideal.exp2 (S (N + j) - mx S (N + n)) := by
  rw [ls_eq_ov, ov_add, ls_eq_ov]; simp

/-! ## Keys whose score is `⊥` weigh nothing -/

theorem mx_ext {S : ℕ → EReal} {N n : ℕ} (h : ∀ j, N ≤ j → S j = ⊥) : mx S (N + n) = mx S N := by
  rw [mx_add]
  refine max_eq_left (Finset.sup_le fun j _ => ?_)
  rw [h _ (by omega)]; exact bot_le

theorem ov_ext {S V : ℕ → EReal} {N n : ℕ} (h : ∀ j, N ≤ j → S j = ⊥) : ov S V (N + n) = ov S V N := by
  rw [ov, Finset.sum_range_add, ov, mx_ext h]
  refine (congrArg _ (Finset.sum_eq_zero fun j _ => ?_)).trans (add_zero _)
  rw [h _ (by omega)]; simp

theorem ls_ext {S : ℕ → EReal} {N n : ℕ} (h : ∀ j, N ≤ j → S j = ⊥) : ls S (N + n) = ls S N := by
  rw [ls_eq_ov, ov_ext h, ← ls_eq_ov]

/-! ## From base two to base `e` -/

/-- The real `1 / log 2`, the base-two logarithm of `e`. -/
def L : ℝ := (Real.log 2)⁻¹

theorem log2_pos : 0 < Real.log 2 := Real.log_pos (by norm_num)
theorem L_pos : 0 < L := inv_pos.2 log2_pos

/-- `2 ^ (x / log 2)` is `e ^ x`. -/
theorem exp2_mul_L (x : EReal) : Ideal.exp2 (x * (L : EReal)) = Ideal.exp x := by
  induction x with
  | bot => rw [EReal.bot_mul_coe_of_pos L_pos]; rfl
  | top => rw [EReal.top_mul_coe_of_pos L_pos]; rfl
  | coe r =>
    rw [← EReal.coe_mul, Ideal.exp2_coe, Ideal.exp_coe]
    congr 1
    change (2 : ℝ) ^ (r * L) = _
    rw [Real.rpow_def_of_pos (by norm_num), L]
    congr 1
    field_simp [log2_pos.ne']

theorem mul_L_mul_log (x : EReal) : x * (L : EReal) * ((Real.log 2 : ℝ) : EReal) = x := by
  rw [mul_assoc, ← EReal.coe_mul, L, inv_mul_cancel₀ log2_pos.ne', EReal.coe_one, mul_one]

/-- The maximum of the scaled scores is the scaled maximum. -/
theorem mx_mul_L (s : ℕ → EReal) (N : ℕ) : mx (fun j => s j * (L : EReal)) N = mx s N * (L : EReal) := by
  have h : Monotone fun x : EReal => x * (L : EReal) := fun a b hab => mul_le_mul_of_nonneg_right hab (by exact_mod_cast L_pos.le)
  have hb : (⊥ : EReal) * (L : EReal) = ⊥ := EReal.bot_mul_coe_of_pos L_pos
  exact (Finset.comp_sup_eq_sup_comp (s := Finset.range N) (f := s) (fun x : EReal => x * (L : EReal)) (fun a b => h.map_max) hb).symm

/-- The weight of a scaled score in base two is the weight of the score in base `e`. -/
theorem weight_mul_L (s : ℕ → EReal) (N j : ℕ) :
    Ideal.exp2 (s j * (L : EReal) - mx (fun j => s j * (L : EReal)) N) = Ideal.exp (s j - mx s N) := by
  rw [mx_mul_L, ← sub_mul_real L_pos.le, exp2_mul_L]

/-! ## The normalised results -/

theorem exp_sub_log {x : EReal} (hx : x ≤ 0) {l : ℝ} (hl : 0 < l) :
    Ideal.exp (x - ((Real.log l : ℝ) : EReal)) = Ideal.exp x * ((1 / l : ℝ) : EReal) := by
  induction x with
  | bot => simp
  | top => exact absurd hx (by simp)
  | coe r =>
    rw [← EReal.coe_sub, Ideal.exp_coe, Ideal.exp_coe, ← EReal.coe_mul]
    congr 1
    rw [Real.exp_sub, Real.exp_log hl, mul_one_div]

/-- The maximum over at least one key is attained. -/
theorem mx_attained (s : ℕ → EReal) {N : ℕ} (hN : 0 < N) : ∃ j < N, s j = mx s N := by
  obtain ⟨j, hj, e⟩ := Finset.exists_mem_eq_sup (Finset.range N) ⟨0, Finset.mem_range.2 hN⟩ s
  exact ⟨j, Finset.mem_range.1 hj, e.symm⟩

theorem exp_real {x : EReal} (h : x ≤ 0) : ∃ r : ℝ, 0 ≤ r ∧ Ideal.exp x = (r : EReal) := by
  induction x with
  | bot => exact ⟨0, le_rfl, rfl⟩
  | top => exact absurd h (by simp)
  | coe r => exact ⟨_, (Real.exp_pos r).le, rfl⟩

/-- The sum of the weights in base `e`: zero when the maximum is infinite, else a positive real. -/
theorem sum_exp_cases (s : ℕ → EReal) {N : ℕ} (hN : 0 < N) :
    (∀ j < N, s j - mx s N = ⊥) ∨
      ∃ l : ℝ, 0 < l ∧ ∑ j ∈ Finset.range N, Ideal.exp (s j - mx s N) = (l : EReal) := by
  rcases hm : mx s N with _ | _ | m
  · exact Or.inl fun j hj => by
      have h : s j ≤ ⊥ := by have := le_mx (S := s) hj; rw [hm] at this; exact this
      rw [le_bot_iff.1 h]; exact EReal.bot_sub _
  · exact Or.inl fun j _ => EReal.sub_top _
  · right
    have hm' : mx s N = ((m : ℝ) : EReal) := hm
    have H : ∀ K : Finset ℕ, K ⊆ Finset.range N → ∃ l : ℝ, 0 ≤ l ∧ ∑ j ∈ K, Ideal.exp (s j - mx s N) = (l : EReal) := by
      intro K
      induction K using Finset.induction_on with
      | empty => exact fun _ => ⟨0, le_rfl, rfl⟩
      | insert a K ha ih =>
        intro hK
        obtain ⟨l, hl, e⟩ := ih fun x hx => hK (Finset.mem_insert_of_mem hx)
        obtain ⟨r, hr, e'⟩ := exp_real (sub_nonpos' (le_mx (S := s) (Finset.mem_range.1 (hK (Finset.mem_insert_self a K)))))
        exact ⟨r + l, add_nonneg hr hl, by rw [Finset.sum_insert ha, e, e', EReal.coe_add]⟩
    obtain ⟨j, hj, e⟩ := mx_attained s hN
    obtain ⟨l, hl, e'⟩ := H ((Finset.range N).erase j) (Finset.erase_subset _ _)
    refine ⟨1 + l, by linarith, ?_⟩
    change ∑ j ∈ Finset.range N, Ideal.exp (s j - ((m : ℝ) : EReal)) = _
    rw [← hm', ← Finset.add_sum_erase _ _ (Finset.mem_range.2 hj), e', e, hm', ← EReal.coe_sub, sub_self, Ideal.exp_coe,
      Real.exp_zero, EReal.coe_add]

/-- The weighted sum times the reciprocal of the sum of the weights is the sum with the normalised weights
    `exp (s - m - log Σ)`. -/
theorem out_eq (s V : ℕ → EReal) {N : ℕ} (hN : 0 < N) :
    ov (fun j => s j * (L : EReal)) V N * Ideal.div 1 (ls (fun j => s j * (L : EReal)) N)
      = ∑ j ∈ Finset.range N,
          Ideal.exp (s j - mx s N - Ideal.log (∑ j ∈ Finset.range N, Ideal.exp (s j - mx s N))) * V j := by
  simp only [ov, ls, weight_mul_L]
  rcases sum_exp_cases s hN with h | ⟨l, hl, e⟩
  · rw [Finset.sum_eq_zero fun j hj => by rw [h j (Finset.mem_range.1 hj), Ideal.exp_bot, mul_zero], zero_mul]
    refine (Finset.sum_eq_zero fun j hj => ?_).symm
    rw [h j (Finset.mem_range.1 hj), EReal.bot_sub, Ideal.exp_bot, zero_mul]
  · rw [e, Ideal.div_coe hl.ne', one_mul, sum_mul_real (by positivity), Ideal.log_coe, if_neg hl.not_ge]
    refine Finset.sum_congr rfl fun j hj => ?_
    rw [exp_sub_log (sub_nonpos' (le_mx (Finset.mem_range.1 hj))) hl, mul_assoc, mul_comm]

/-- The base-two log-sum-exp scaled by `log 2` is the log-sum-exp in base `e`. -/
theorem lse_eq (s : ℕ → EReal) (N : ℕ) :
    (mx (fun j => s j * (L : EReal)) N + Ideal.log (ls (fun j => s j * (L : EReal)) N) * (L : EReal)) * ((Real.log 2 : ℝ) : EReal)
      = Ideal.log (∑ j ∈ Finset.range N, Ideal.exp (s j - mx s N)) + mx s N := by
  simp only [ls, weight_mul_L]
  rw [mx_mul_L, ← add_mul_real L_pos.le, mul_L_mul_log, add_comm]

end Cert.Online
-- ==== Proof.Spec.lean ====
/- The mathematics both programs compute: causal attention with a forgetting gate, over the extended reals. -/
module

public import proofs.«01_k».proof.Proof.Online

@[expose] public section

noncomputable section

namespace Cert.Spec

open Idealize.ShloMosaic

/-- The seven arguments, at coordinates. Queries: batch, position, head, feature. Keys and values: batch, position, head
    group, feature. Query and key scales: batch, run of 128 positions, head or group. Value scales: batch, group, feature.
    Gates: batch, position, head. -/
structure Args where
  q : Fin 6 → Fin 4096 → Fin 16 → Fin 96 → EReal
  qs : Fin 6 → Fin 32 → Fin 16 → EReal
  k : Fin 6 → Fin 4096 → Fin 2 → Fin 96 → EReal
  ks : Fin 6 → Fin 32 → Fin 2 → EReal
  v : Fin 6 → Fin 4096 → Fin 2 → Fin 96 → EReal
  vs : Fin 6 → Fin 2 → Fin 96 → EReal
  f : Fin 6 → Fin 4096 → Fin 16 → EReal

/-- The log-sigmoid. -/
def lsg (x : EReal) : EReal := min x 0 - Ideal.log1p (Ideal.exp (0 - FloatOps.absf (F := Ideal) (φ := .f32) x))

variable (A : Args)

/-- The running sum of the log-sigmoids of a head's gates, position `n` included. -/
def gate (b : Fin 6) (H : Fin 16) (n : ℕ) : EReal := ∑ i ∈ Finset.range (n + 1), lsg (A.f b (Fin.ofNat 4096 i) H)

/-- A head's group. -/
def grp (H : Fin 16) : Fin 2 := ⟨H.val / 8, by have := H.isLt; omega⟩

/-- The score of query `n` with key `j`. -/
def score (b : Fin 6) (H : Fin 16) (n j : ℕ) : EReal :=
  (∑ d : Fin 96, A.k b (Fin.ofNat 4096 j) (grp H) d * A.q b (Fin.ofNat 4096 n) H d)
      * (A.qs b (Fin.ofNat 32 (n / 128)) H * A.ks b (Fin.ofNat 32 (j / 128)) (grp H) * (((Real.sqrt 96)⁻¹ : ℝ) : EReal))
    + (gate A b H n - gate A b H j)

/-- The causal score. -/
def causal (b : Fin 6) (H : Fin 16) (n j : ℕ) : EReal := if j ≤ n then score A b H n j else ⊥

/-- The maximal score of a query. -/
def top (b : Fin 6) (H : Fin 16) (n : ℕ) : EReal := Online.mx (causal A b H n) 4096

/-- The sum of a query's weights. -/
def total (b : Fin 6) (H : Fin 16) (n : ℕ) : EReal := ∑ j ∈ Finset.range 4096, Ideal.exp (causal A b H n j - top A b H n)

/-- The attention output. -/
def out (b : Fin 6) (n : Fin 4096) (H : Fin 16) (d : Fin 96) : EReal :=
  (∑ j ∈ Finset.range 4096, Ideal.exp (causal A b H n j - top A b H n - Ideal.log (total A b H n)) * A.v b (Fin.ofNat 4096 j) (grp H) d)
    * A.vs b (grp H) d

/-- The log-sum-exp. -/
def lse (b : Fin 6) (n : Fin 4096) (H : Fin 16) : EReal := Ideal.log (total A b H n) + top A b H n

/-! ## The same in base two, over the keys up to the end of the query's tile -/

/-- The causal score in base two. -/
def causal2 (b : Fin 6) (H : Fin 16) (n j : ℕ) : EReal := causal A b H n j * (Online.L : EReal)

theorem causal2_bot (b : Fin 6) (H : Fin 16) (n j : ℕ) (h : n < j) : causal2 A b H n j = ⊥ := by
  unfold causal2 causal
  rw [if_neg (by omega), EReal.bot_mul_coe_of_pos Online.L_pos]

theorem tile_le {N : ℕ} (hN : N ≤ 4096) : ∃ k, 4096 = N + k := ⟨4096 - N, by omega⟩

/-- The output from the base-two sums over the first `N` keys, the query among them. -/
theorem out_eq (b : Fin 6) (n : Fin 4096) (H : Fin 16) (d : Fin 96) (N : ℕ) (hn : n.val < N) (hN : N ≤ 4096) :
    Online.ov (causal2 A b H n) (fun j => A.v b (Fin.ofNat 4096 j) (grp H) d) N * Ideal.div 1 (Online.ls (causal2 A b H n) N) * A.vs b (grp H) d
      = out A b n H d := by
  obtain ⟨k, hk⟩ := tile_le hN
  have hb : ∀ j, N ≤ j → causal2 A b H n j = ⊥ := fun j hj => causal2_bot A b H n j (by omega)
  rw [← Online.ov_ext (n := k) hb, ← Online.ls_ext (n := k) hb, ← hk]
  exact congrArg (· * A.vs b (grp H) d) (Online.out_eq (causal A b H n) _ (by norm_num))

/-- The log-sum-exp from the base-two sums over the first `N` keys, the query among them. -/
theorem lse_eq (b : Fin 6) (n : Fin 4096) (H : Fin 16) (N : ℕ) (hn : n.val < N) (hN : N ≤ 4096) :
    (Online.mx (causal2 A b H n) N + Ideal.log (Online.ls (causal2 A b H n) N) * (Online.L : EReal)) * ((Real.log 2 : ℝ) : EReal)
      = lse A b n H := by
  obtain ⟨k, hk⟩ := tile_le hN
  have hb : ∀ j, N ≤ j → causal2 A b H n j = ⊥ := fun j hj => causal2_bot A b H n j (by omega)
  rw [← Online.mx_ext (n := k) hb, ← Online.ls_ext (n := k) hb, ← hk]
  exact Online.lse_eq (causal A b H n) 4096

end Cert.Spec
-- ==== Proof.Scan.lean ====
/- One column block of the gate kernel: the log-sigmoid of 128 gates of every row, and their running sum by seven
   shift-and-add stages on top of the sum carried in from the blocks before. -/
module

public import proofs.«01_k».proof.Proof.Spec
public import proofs.«01_k».proof.Proof.Gen.KernelIdeal.Frame
public import Idealize.ShloMosaic.Lib.Pointwise
public import Idealize.ShloMosaic.Lib.WordCmp

@[expose] public section

set_option maxRecDepth 16384

noncomputable section

namespace Cert.Gate

open Cert.Spec (lsg)
open Cert.KernelIdeal Cert.KernelIdeal.Gen Idealize.ShloMosaic Idealize.ShloMosaic.TcCoe Idealize.SL.Sem

/-- The column numbers. -/
def lane : IVec S96x128 32 := iota .tc S96x128 32 [1] iota_S96x128_d1_w32

/-- The log-sigmoid of a block. -/
def lsBlock (x : Vec Ideal S96x128 .f32) : FVec Ideal S96x128 .f32 :=
  subf (minimumf (shapeCast S96x128 x shapeCasts_S96x128_S96x128) (broadcast S96x128 (FloatOps.ofBits FTy.f32 0#32)))
    (log1p (exp (subf (broadcast S96x128 (FloatOps.ofBits FTy.f32 0#32)) (absf (shapeCast S96x128 x shapeCasts_S96x128_S96x128)))))

/-- One stage: every column adds the column `s` to its left, where there is one. -/
def stage (s : BitVec 32) (x : FVec Ideal S96x128 .f32) : FVec Ideal S96x128 .f32 :=
  addf x (select (cmpi CmpIPredicate.sge lane (broadcast S96x128 s)) (dynamicRotate 1 s none x rotates_S96x128_d1)
    (broadcast S96x128 (FloatOps.ofBits FTy.f32 0#32)))

/-- All seven stages. -/
def scan (x : FVec Ideal S96x128 .f32) : FVec Ideal S96x128 .f32 :=
  stage 64#32 (stage 32#32 (stage 16#32 (stage 8#32 (stage 4#32 (stage 2#32 (stage 1#32 x))))))

/-- The running sum of a block on top of the carry. -/
def runBlock (x : Vec Ideal S96x128 .f32) (carry : FVec Ideal S96x1 .f32) : FVec Ideal S96x128 .f32 :=
  addf (scan (lsBlock x)) (broadcastTo S96x128 carry broadcasts_S96x1_S96x128)

/-- The carry to the next block: the last column. -/
def carryBlock (x : Vec Ideal S96x128 .f32) (carry : FVec Ideal S96x1 .f32) : FVec Ideal S96x1 .f32 :=
  extractStridedSlice S96x1 ![0, 127] (runBlock x carry) slices_S96x128_o0_127_S96x1

/-- What is stored: the running sum in base 2. -/
def outBlock (x : Vec Ideal S96x128 .f32) (carry : FVec Ideal S96x1 .f32) : FVec Ideal S96x128 .f32 :=
  mulf (runBlock x carry) (broadcast S96x128 (Named.named κ "log2e" 1069066811#32))

theorem lsBlock_apply (x : Vec Ideal S96x128 .f32) (r : Fin 96) (k : Fin 128) : lsBlock x (ix2 r k) = lsg (x (ix2 r k)) := by
  unfold lsBlock lsg
  pointwise

theorem stage_apply (s : ℕ) (hs : s < 128) (x : FVec Ideal S96x128 .f32) (r : Fin 96) (k : Fin 128) :
    stage (BitVec.ofNat 32 s) x (ix2 r k) = x (ix2 r k) + if h : s ≤ k.val then x (ix2 r ⟨k.val - s, by omega⟩) else 0 := by
  unfold stage lane
  pointwise
  have hk := k.isLt
  have e : (BitVec.ofNat 32 s).toNat = s := by rw [BitVec.toNat_ofNat]; omega
  rw [WordCmp.cmpi_sge_ofNat (by omega) (by omega)]
  by_cases h : s ≤ k.val
  · rw [dif_pos h, decide_eq_true h]
    refine congrArg (x (ix2 r k) + ·) (congrArg (fun z => x (ix2 r z)) (Fin.ext ?_))
    show (k.val + 128 - (BitVec.ofNat 32 s).toNat % 128) % 128 = k.val - s
    rw [e]; omega
  · rw [dif_neg h, decide_eq_false h]
    rfl

/-- Every column holds the sum of the `w` values that end at it. -/
def Summed (w : ℕ) (x : FVec Ideal S96x128 .f32) (f : Fin 96 → ℕ → EReal) : Prop :=
  ∀ (r : Fin 96) (k : Fin 128), x (ix2 r k) = ∑ j ∈ Finset.Ico (k.val + 1 - w) (k.val + 1), f r j

/-- A stage doubles the width of the sums. -/
theorem Summed.stage {w : ℕ} (hw : w < 128) {x : FVec Ideal S96x128 .f32} {f : Fin 96 → ℕ → EReal} (h : Summed w x f) :
    Summed (2 * w) (stage (BitVec.ofNat 32 w) x) f := by
  intro r k
  have hk := k.isLt
  rw [stage_apply w hw]
  rw [← Finset.sum_Ico_consecutive (f r) (show k.val + 1 - 2 * w ≤ k.val + 1 - w by omega) (show k.val + 1 - w ≤ k.val + 1 by omega),
    add_comm, h r k]
  refine congrArg (· + _) ?_
  by_cases hwk : w ≤ k.val
  · rw [dif_pos hwk, h r ⟨k.val - w, by omega⟩]
    refine Finset.sum_congr ?_ fun _ _ => rfl
    show Finset.Ico (k.val - w + 1 - w) (k.val - w + 1) = _
    congr 1 <;> omega
  · rw [dif_neg hwk, show k.val + 1 - w = 0 by omega, Finset.Ico_eq_empty_of_le (by omega), Finset.sum_empty]

/-- The seven stages sum all the columns up to each one. -/
theorem scan_apply (x : FVec Ideal S96x128 .f32) (f : Fin 96 → ℕ → EReal) (h : ∀ (r : Fin 96) (k : Fin 128), x (ix2 r k) = f r k)
    (r : Fin 96) (k : Fin 128) : scan x (ix2 r k) = ∑ j ∈ Finset.range (k.val + 1), f r j := by
  have h1 : Summed 1 x f := fun r k => by
    rw [show k.val + 1 - 1 = k.val by omega, Finset.sum_Ico_succ_top (le_refl _), Finset.Ico_self, Finset.sum_empty, zero_add, h]
  have h128 : Summed 128 (scan x) f :=
    (((((((h1.stage (by omega)).stage (by omega)).stage (by omega)).stage (by omega)).stage (by omega)).stage (by omega)).stage (by omega))
  have hk := k.isLt
  rw [h128 r k, show k.val + 1 - 128 = 0 by omega, Finset.range_eq_Ico]

section

variable (x : Vec Ideal S96x128 .f32) (carry : FVec Ideal S96x1 .f32) (r : Fin 96) (k : Fin 128) (f : ℕ → EReal) (n : ℕ)
  (hf : ∀ k : Fin 128, f (n + k.val) = lsg (x (ix2 r k)))
  (hc : carry (ix2 r (0 : Fin 1)) = ∑ j ∈ Finset.range n, f j)

include hf hc

/-- The running sum at a column: all the log-sigmoids of the row up to it. -/
theorem runBlock_apply : runBlock x carry (ix2 r k) = ∑ j ∈ Finset.range (n + k.val + 1), f j := by
  have e : runBlock x carry (ix2 r k) = scan (lsBlock x) (ix2 r k) + carry (ix2 r (0 : Fin 1)) := by
    unfold runBlock
    generalize scan (lsBlock x) = y
    pointwise
  rw [e, scan_apply (lsBlock x) (fun r' j => if h : j < 128 then lsg (x (ix2 r' ⟨j, h⟩)) else 0)
    (fun r' k' => by rw [lsBlock_apply, dif_pos k'.isLt]), hc, show n + k.val + 1 = n + (k.val + 1) by omega,
    Finset.sum_range_add f n (k.val + 1), add_comm]
  congr 1
  refine Finset.sum_congr rfl fun j hj => ?_
  have hj' : j < 128 := by have := Finset.mem_range.mp hj; have := k.isLt; omega
  rw [dif_pos hj', ← hf ⟨j, hj'⟩]

theorem carryBlock_apply : carryBlock x carry (ix2 r (0 : Fin 1)) = ∑ j ∈ Finset.range (n + 128), f j := by
  have e : carryBlock x carry (ix2 r (0 : Fin 1)) = runBlock x carry (ix2 r (127 : Fin 128)) := by
    unfold carryBlock
    generalize runBlock x carry = y
    pointwise
  rw [e, runBlock_apply x carry r 127 f n hf hc]
  rfl

theorem outBlock_apply : outBlock x carry (ix2 r k) = (∑ j ∈ Finset.range (n + k.val + 1), f j) * (Online.L : EReal) := by
  have e : outBlock x carry (ix2 r k) = runBlock x carry (ix2 r k) * (Online.L : EReal) := by
    unfold outBlock
    rw [show Named.named (F := Ideal) κ "log2e" (φ := .f32) 1069066811#32 = ((Online.L : ℝ) : EReal) from IdealRules.named_const.ideal_named_scalar _ _ _ _ rfl]
    generalize runBlock x carry = y
    pointwise
  rw [e, runBlock_apply x carry r k f n hf hc]

end

end Cert.Gate
-- ==== Proof.Gate.lean ====
/- What the gate kernel leaves in its output block: for every row the running sum of the log-sigmoids of its gates, in
   base 2. -/
module

public import proofs.«01_k».proof.Proof.Scan
public import Idealize.ShloMosaic.Lib.Pipeline.Covers
public import Idealize.ShloMosaic.Lib.Pipeline.ValueKit.Geometry

@[expose] public section

set_option maxRecDepth 16384

noncomputable section

namespace Cert.Gate

open Cert.Spec (lsg)
open Cert.KernelIdeal Cert.KernelIdeal.Gen Idealize.ShloMosaic Idealize.ShloMosaic.TcCoe Idealize.SL.Sem

theorem gRect_inb (n : Fin 32) : ∀ a, (![0, 128 * n.val] : Fin 2 → ℕ) a + S96x128.size a ≤ S96x4096.size a := by
  have hn := n.isLt
  intro a; fin_cases a
  · show 0 + 96 ≤ 96; omega
  · show 128 * n.val + 128 ≤ 4096; omega

/-- Column block `n`. -/
def gRect (n : Fin 32) : Rect S96x4096 := Rect.unit (s := S96x4096) ![0, 128 * n.val] S96x128.size (gRect_inb n)

theorem gRect_emb (n : Fin 32) (r : Fin 96) (k : Fin 128) (j : Fin 4096) (hj : j.val = 128 * n.val + k.val) :
    (gRect n).emb (ix2 r k : S96x128.Idx) = (ix2 r j : S96x4096.Idx) := by
  apply (gRect n).emb_eq_of_coords
  intro a; fin_cases a <;> simp [gRect, Rect.unit] <;> omega

/-- Column block `n` of the gates. -/
def gLd (x0 : Vec Ideal S96x4096 .f32) (n : Fin 32) : Vec Ideal S96x128 .f32 := View.ld x0 (gRect n)

theorem gLd_apply (x0 : Vec Ideal S96x4096 .f32) (n : Fin 32) (r : Fin 96) (k : Fin 128) (j : Fin 4096) (hj : j.val = 128 * n.val + k.val) :
    gLd x0 n (ix2 r k) = x0 (ix2 r j) := congrArg x0 (gRect_emb n r k j hj)

/-- The sum carried into column block `n`. -/
def car (x0 : Vec Ideal S96x4096 .f32) : ℕ → FVec Ideal S96x1 .f32
  | 0 => k0_pay2 (F := Ideal)
  | n + 1 => carryBlock (gLd x0 (Fin.ofNat 32 n)) (car x0 n)

variable (x0 : Vec Ideal S96x4096 .f32)

theorem car_0 : k0_pay194 x0 = car x0 0 := rfl
theorem car_1 : k0_pay199 x0 = car x0 1 := by
  refine Eq.trans (b := carryBlock (gLd x0 (Fin.ofNat 32 0)) (k0_pay194 x0)) rfl ?_
  rw [car_0]; rfl
theorem car_2 : k0_pay204 x0 = car x0 2 := by
  refine Eq.trans (b := carryBlock (gLd x0 (Fin.ofNat 32 1)) (k0_pay199 x0)) rfl ?_
  rw [car_1]; rfl
theorem car_3 : k0_pay207 x0 = car x0 3 := by
  refine Eq.trans (b := carryBlock (gLd x0 (Fin.ofNat 32 2)) (k0_pay204 x0)) rfl ?_
  rw [car_2]; rfl
theorem car_4 : k0_pay210 x0 = car x0 4 := by
  refine Eq.trans (b := carryBlock (gLd x0 (Fin.ofNat 32 3)) (k0_pay207 x0)) rfl ?_
  rw [car_3]; rfl
theorem car_5 : k0_pay212 x0 = car x0 5 := by
  refine Eq.trans (b := carryBlock (gLd x0 (Fin.ofNat 32 4)) (k0_pay210 x0)) rfl ?_
  rw [car_4]; rfl
theorem car_6 : k0_pay214 x0 = car x0 6 := by
  refine Eq.trans (b := carryBlock (gLd x0 (Fin.ofNat 32 5)) (k0_pay212 x0)) rfl ?_
  rw [car_5]; rfl
theorem car_7 : k0_pay220 x0 = car x0 7 := by
  refine Eq.trans (b := carryBlock (gLd x0 (Fin.ofNat 32 6)) (k0_pay214 x0)) rfl ?_
  rw [car_6]; rfl
theorem car_8 : k0_pay225 x0 = car x0 8 := by
  refine Eq.trans (b := carryBlock (gLd x0 (Fin.ofNat 32 7)) (k0_pay220 x0)) rfl ?_
  rw [car_7]; rfl
theorem car_9 : k0_pay230 x0 = car x0 9 := by
  refine Eq.trans (b := carryBlock (gLd x0 (Fin.ofNat 32 8)) (k0_pay225 x0)) rfl ?_
  rw [car_8]; rfl
theorem car_10 : k0_pay233 x0 = car x0 10 := by
  refine Eq.trans (b := carryBlock (gLd x0 (Fin.ofNat 32 9)) (k0_pay230 x0)) rfl ?_
  rw [car_9]; rfl
theorem car_11 : k0_pay236 x0 = car x0 11 := by
  refine Eq.trans (b := carryBlock (gLd x0 (Fin.ofNat 32 10)) (k0_pay233 x0)) rfl ?_
  rw [car_10]; rfl
theorem car_12 : k0_pay238 x0 = car x0 12 := by
  refine Eq.trans (b := carryBlock (gLd x0 (Fin.ofNat 32 11)) (k0_pay236 x0)) rfl ?_
  rw [car_11]; rfl
theorem car_13 : k0_pay240 x0 = car x0 13 := by
  refine Eq.trans (b := carryBlock (gLd x0 (Fin.ofNat 32 12)) (k0_pay238 x0)) rfl ?_
  rw [car_12]; rfl
theorem car_14 : k0_pay247 x0 = car x0 14 := by
  refine Eq.trans (b := carryBlock (gLd x0 (Fin.ofNat 32 13)) (k0_pay240 x0)) rfl ?_
  rw [car_13]; rfl
theorem car_15 : k0_pay252 x0 = car x0 15 := by
  refine Eq.trans (b := carryBlock (gLd x0 (Fin.ofNat 32 14)) (k0_pay247 x0)) rfl ?_
  rw [car_14]; rfl
theorem car_16 : k0_pay255 x0 = car x0 16 := by
  refine Eq.trans (b := carryBlock (gLd x0 (Fin.ofNat 32 15)) (k0_pay252 x0)) rfl ?_
  rw [car_15]; rfl
theorem car_17 : k0_pay105 (k0_pay193 x0) (k0_pay255 x0) (k0_pay256 x0) (k0_pay257 x0) 8#32 = car x0 17 := by
  refine Eq.trans (b := carryBlock (gLd x0 (Fin.ofNat 32 16)) (k0_pay255 x0)) rfl ?_
  rw [car_16]; rfl
theorem car_18 : k0_pay260 x0 = car x0 18 := by
  refine Eq.trans (b := carryBlock (gLd x0 (Fin.ofNat 32 17)) (k0_pay105 (k0_pay193 x0) (k0_pay255 x0) (k0_pay256 x0) (k0_pay257 x0) 8#32)) rfl ?_
  rw [car_17]; rfl
theorem car_19 : k0_pay262 x0 = car x0 19 := by
  refine Eq.trans (b := carryBlock (gLd x0 (Fin.ofNat 32 18)) (k0_pay260 x0)) rfl ?_
  rw [car_18]; rfl
theorem car_20 : k0_pay264 x0 = car x0 20 := by
  refine Eq.trans (b := carryBlock (gLd x0 (Fin.ofNat 32 19)) (k0_pay262 x0)) rfl ?_
  rw [car_19]; rfl
theorem car_21 : k0_pay269 x0 = car x0 21 := by
  refine Eq.trans (b := carryBlock (gLd x0 (Fin.ofNat 32 20)) (k0_pay264 x0)) rfl ?_
  rw [car_20]; rfl
theorem car_22 : k0_pay274 x0 = car x0 22 := by
  refine Eq.trans (b := carryBlock (gLd x0 (Fin.ofNat 32 21)) (k0_pay269 x0)) rfl ?_
  rw [car_21]; rfl
theorem car_23 : k0_pay277 x0 = car x0 23 := by
  refine Eq.trans (b := carryBlock (gLd x0 (Fin.ofNat 32 22)) (k0_pay274 x0)) rfl ?_
  rw [car_22]; rfl
theorem car_24 : k0_pay280 x0 = car x0 24 := by
  refine Eq.trans (b := carryBlock (gLd x0 (Fin.ofNat 32 23)) (k0_pay277 x0)) rfl ?_
  rw [car_23]; rfl
theorem car_25 : k0_pay282 x0 = car x0 25 := by
  refine Eq.trans (b := carryBlock (gLd x0 (Fin.ofNat 32 24)) (k0_pay280 x0)) rfl ?_
  rw [car_24]; rfl
theorem car_26 : k0_pay284 x0 = car x0 26 := by
  refine Eq.trans (b := carryBlock (gLd x0 (Fin.ofNat 32 25)) (k0_pay282 x0)) rfl ?_
  rw [car_25]; rfl
theorem car_27 : k0_pay290 x0 = car x0 27 := by
  refine Eq.trans (b := carryBlock (gLd x0 (Fin.ofNat 32 26)) (k0_pay284 x0)) rfl ?_
  rw [car_26]; rfl
theorem car_28 : k0_pay295 x0 = car x0 28 := by
  refine Eq.trans (b := carryBlock (gLd x0 (Fin.ofNat 32 27)) (k0_pay290 x0)) rfl ?_
  rw [car_27]; rfl
theorem car_29 : k0_pay300 x0 = car x0 29 := by
  refine Eq.trans (b := carryBlock (gLd x0 (Fin.ofNat 32 28)) (k0_pay295 x0)) rfl ?_
  rw [car_28]; rfl
theorem car_30 : k0_pay303 x0 = car x0 30 := by
  refine Eq.trans (b := carryBlock (gLd x0 (Fin.ofNat 32 29)) (k0_pay300 x0)) rfl ?_
  rw [car_29]; rfl
theorem car_31 : k0_pay187 (k0_pay193 x0) (k0_pay303 x0) (k0_pay304 x0) (k0_pay305 x0) 2#32 = car x0 31 := by
  refine Eq.trans (b := carryBlock (gLd x0 (Fin.ofNat 32 30)) (k0_pay303 x0)) rfl ?_
  rw [car_30]; rfl
theorem piece_0 : k0_pay9 (k0_pay193 x0) (k0_pay194 x0) (k0_pay195 x0) (k0_pay196 x0) (k0_pay197 x0) (k0_pay198 x0) = outBlock (gLd x0 0) (car x0 0) := by
  refine Eq.trans (b := outBlock (gLd x0 0) (k0_pay194 x0)) rfl ?_
  rw [car_0]
theorem piece_1 : k0_pay16 (k0_pay193 x0) (k0_pay199 x0) (k0_pay200 x0) (k0_pay201 x0) (k0_pay202 x0) (k0_pay203 x0) = outBlock (gLd x0 1) (car x0 1) := by
  refine Eq.trans (b := outBlock (gLd x0 1) (k0_pay199 x0)) rfl ?_
  rw [car_1]
theorem piece_2 : k0_pay21 (k0_pay193 x0) (k0_pay204 x0) (k0_pay205 x0) (k0_pay206 x0) 32#32 = outBlock (gLd x0 2) (car x0 2) := by
  refine Eq.trans (b := outBlock (gLd x0 2) (k0_pay204 x0)) rfl ?_
  rw [car_2]
theorem piece_3 : k0_pay26 (k0_pay193 x0) (k0_pay207 x0) (k0_pay208 x0) (k0_pay209 x0) 4#32 = outBlock (gLd x0 3) (car x0 3) := by
  refine Eq.trans (b := outBlock (gLd x0 3) (k0_pay207 x0)) rfl ?_
  rw [car_3]
theorem piece_4 : k0_pay33 (k0_pay193 x0) (k0_pay210 x0) (k0_pay211 x0) 64#32 = outBlock (gLd x0 4) (car x0 4) := by
  refine Eq.trans (b := outBlock (gLd x0 4) (k0_pay210 x0)) rfl ?_
  rw [car_4]
theorem piece_5 : k0_pay37 (k0_pay193 x0) (k0_pay212 x0) (k0_pay213 x0) 8#32 = outBlock (gLd x0 5) (car x0 5) := by
  refine Eq.trans (b := outBlock (gLd x0 5) (k0_pay212 x0)) rfl ?_
  rw [car_5]
theorem piece_6 : k0_pay45 (k0_pay214 x0) (k0_pay216 x0) (k0_pay217 x0) (k0_pay218 x0) (k0_pay219 x0) = outBlock (gLd x0 6) (car x0 6) := by
  refine Eq.trans (b := outBlock (gLd x0 6) (k0_pay214 x0)) rfl ?_
  rw [car_6]
theorem piece_7 : k0_pay52 (k0_pay193 x0) (k0_pay220 x0) (k0_pay221 x0) (k0_pay222 x0) (k0_pay223 x0) (k0_pay224 x0) = outBlock (gLd x0 7) (car x0 7) := by
  refine Eq.trans (b := outBlock (gLd x0 7) (k0_pay220 x0)) rfl ?_
  rw [car_7]
theorem piece_8 : k0_pay59 (k0_pay57 (k0_pay193 x0) (k0_pay225 x0) (k0_pay226 x0) (k0_pay227 x0) (k0_pay228 x0) (k0_pay229 x0)) (Named.named (F := Ideal) κ "log2e" (φ := .f32) 0x3FB8AA3B#32) = outBlock (gLd x0 8) (car x0 8) := by
  refine Eq.trans (b := outBlock (gLd x0 8) (k0_pay225 x0)) rfl ?_
  rw [car_8]
theorem piece_9 : k0_pay64 (k0_pay193 x0) (k0_pay230 x0) (k0_pay231 x0) (k0_pay232 x0) 16#32 = outBlock (gLd x0 9) (car x0 9) := by
  refine Eq.trans (b := outBlock (gLd x0 9) (k0_pay230 x0)) rfl ?_
  rw [car_9]
theorem piece_10 : k0_pay69 (k0_pay193 x0) (k0_pay233 x0) (k0_pay234 x0) (k0_pay235 x0) 2#32 = outBlock (gLd x0 10) (car x0 10) := by
  refine Eq.trans (b := outBlock (gLd x0 10) (k0_pay233 x0)) rfl ?_
  rw [car_10]
theorem piece_11 : k0_pay73 (k0_pay193 x0) (k0_pay236 x0) (k0_pay237 x0) 32#32 = outBlock (gLd x0 11) (car x0 11) := by
  refine Eq.trans (b := outBlock (gLd x0 11) (k0_pay236 x0)) rfl ?_
  rw [car_11]
theorem piece_12 : k0_pay77 (k0_pay193 x0) (k0_pay238 x0) (k0_pay239 x0) 4#32 = outBlock (gLd x0 12) (car x0 12) := by
  refine Eq.trans (b := outBlock (gLd x0 12) (k0_pay238 x0)) rfl ?_
  rw [car_12]
theorem piece_13 : k0_pay86 (k0_pay193 x0) (k0_pay240 x0) (k0_pay243 x0) (k0_pay244 x0) (k0_pay245 x0) (k0_pay246 x0) = outBlock (gLd x0 13) (car x0 13) := by
  refine Eq.trans (b := outBlock (gLd x0 13) (k0_pay240 x0)) rfl ?_
  rw [car_13]
theorem piece_14 : k0_pay93 (k0_pay193 x0) (k0_pay247 x0) (k0_pay248 x0) (k0_pay249 x0) (k0_pay250 x0) (k0_pay251 x0) = outBlock (gLd x0 14) (car x0 14) := by
  refine Eq.trans (b := outBlock (gLd x0 14) (k0_pay247 x0)) rfl ?_
  rw [car_14]
theorem piece_15 : k0_pay101 (k0_pay252 x0) (k0_pay253 x0) (k0_pay254 x0) 64#32 = outBlock (gLd x0 15) (car x0 15) := by
  refine Eq.trans (b := outBlock (gLd x0 15) (k0_pay252 x0)) rfl ?_
  rw [car_15]
theorem piece_16 : k0_pay106 (k0_pay193 x0) (k0_pay255 x0) (k0_pay256 x0) (k0_pay257 x0) 8#32 = outBlock (gLd x0 16) (car x0 16) := by
  refine Eq.trans (b := outBlock (gLd x0 16) (k0_pay255 x0)) rfl ?_
  rw [car_16]
theorem piece_17 : k0_pay113 (k0_pay258 x0) (k0_pay259 x0) = outBlock (gLd x0 17) (car x0 17) := by
  refine Eq.trans (b := outBlock (gLd x0 17) (k0_pay105 (k0_pay193 x0) (k0_pay255 x0) (k0_pay256 x0) (k0_pay257 x0) 8#32)) rfl ?_
  rw [car_17]
theorem piece_18 : k0_pay117 (k0_pay193 x0) (k0_pay260 x0) (k0_pay261 x0) 16#32 = outBlock (gLd x0 18) (car x0 18) := by
  refine Eq.trans (b := outBlock (gLd x0 18) (k0_pay260 x0)) rfl ?_
  rw [car_18]
theorem piece_19 : k0_pay121 (k0_pay193 x0) (k0_pay262 x0) (k0_pay263 x0) 2#32 = outBlock (gLd x0 19) (car x0 19) := by
  refine Eq.trans (b := outBlock (gLd x0 19) (k0_pay262 x0)) rfl ?_
  rw [car_19]
theorem piece_20 : k0_pay128 (k0_pay193 x0) (k0_pay264 x0) (k0_pay265 x0) (k0_pay266 x0) (k0_pay267 x0) (k0_pay268 x0) = outBlock (gLd x0 20) (car x0 20) := by
  refine Eq.trans (b := outBlock (gLd x0 20) (k0_pay264 x0)) rfl ?_
  rw [car_20]
theorem piece_21 : k0_pay135 (k0_pay193 x0) (k0_pay269 x0) (k0_pay270 x0) (k0_pay271 x0) (k0_pay272 x0) (k0_pay273 x0) = outBlock (gLd x0 21) (car x0 21) := by
  refine Eq.trans (b := outBlock (gLd x0 21) (k0_pay269 x0)) rfl ?_
  rw [car_21]
theorem piece_22 : k0_pay140 (k0_pay193 x0) (k0_pay274 x0) (k0_pay275 x0) (k0_pay276 x0) 32#32 = outBlock (gLd x0 22) (car x0 22) := by
  refine Eq.trans (b := outBlock (gLd x0 22) (k0_pay274 x0)) rfl ?_
  rw [car_22]
theorem piece_23 : k0_pay145 (k0_pay193 x0) (k0_pay277 x0) (k0_pay278 x0) (k0_pay279 x0) 4#32 = outBlock (gLd x0 23) (car x0 23) := by
  refine Eq.trans (b := outBlock (gLd x0 23) (k0_pay277 x0)) rfl ?_
  rw [car_23]
theorem piece_24 : k0_pay152 (k0_pay193 x0) (k0_pay280 x0) (k0_pay281 x0) 64#32 = outBlock (gLd x0 24) (car x0 24) := by
  refine Eq.trans (b := outBlock (gLd x0 24) (k0_pay280 x0)) rfl ?_
  rw [car_24]
theorem piece_25 : k0_pay156 (k0_pay193 x0) (k0_pay282 x0) (k0_pay283 x0) 8#32 = outBlock (gLd x0 25) (car x0 25) := by
  refine Eq.trans (b := outBlock (gLd x0 25) (k0_pay282 x0)) rfl ?_
  rw [car_25]
theorem piece_26 : k0_pay164 (k0_pay284 x0) (k0_pay286 x0) (k0_pay287 x0) (k0_pay288 x0) (k0_pay289 x0) = outBlock (gLd x0 26) (car x0 26) := by
  refine Eq.trans (b := outBlock (gLd x0 26) (k0_pay284 x0)) rfl ?_
  rw [car_26]
theorem piece_27 : k0_pay171 (k0_pay193 x0) (k0_pay290 x0) (k0_pay291 x0) (k0_pay292 x0) (k0_pay293 x0) (k0_pay294 x0) = outBlock (gLd x0 27) (car x0 27) := by
  refine Eq.trans (b := outBlock (gLd x0 27) (k0_pay290 x0)) rfl ?_
  rw [car_27]
theorem piece_28 : k0_pay178 (k0_pay176 (k0_pay193 x0) (k0_pay295 x0) (k0_pay296 x0) (k0_pay297 x0) (k0_pay298 x0) (k0_pay299 x0)) (Named.named (F := Ideal) κ "log2e" (φ := .f32) 0x3FB8AA3B#32) = outBlock (gLd x0 28) (car x0 28) := by
  refine Eq.trans (b := outBlock (gLd x0 28) (k0_pay295 x0)) rfl ?_
  rw [car_28]
theorem piece_29 : k0_pay183 (k0_pay193 x0) (k0_pay300 x0) (k0_pay301 x0) (k0_pay302 x0) 16#32 = outBlock (gLd x0 29) (car x0 29) := by
  refine Eq.trans (b := outBlock (gLd x0 29) (k0_pay300 x0)) rfl ?_
  rw [car_29]
theorem piece_30 : k0_pay188 (k0_pay193 x0) (k0_pay303 x0) (k0_pay304 x0) (k0_pay305 x0) 2#32 = outBlock (gLd x0 30) (car x0 30) := by
  refine Eq.trans (b := outBlock (gLd x0 30) (k0_pay303 x0)) rfl ?_
  rw [car_30]
theorem piece_31 : k0_pay1 (k0_pay187 (k0_pay193 x0) (k0_pay303 x0) (k0_pay304 x0) (k0_pay305 x0) 2#32) (k0_pay190 (k0_pay193 x0) (k0_pay306 x0) 32#32) (k0_pay191 (k0_pay193 x0)) (k0_pay192 (k0_pay193 x0) (k0_pay306 x0) 32#32) (Scalar.ofBits (F := Ideal) .f32 0x00000000#32) = outBlock (gLd x0 31) (car x0 31) := by
  refine Eq.trans (b := outBlock (gLd x0 31) (k0_pay187 (k0_pay193 x0) (k0_pay303 x0) (k0_pay304 x0) (k0_pay305 x0) 2#32)) rfl ?_
  rw [car_31]

/-- The stored pieces, last first. -/
def gPiece (n : Fin 32) : View.Piece (Elt Ideal) S96x4096 .f32 := ⟨gRect n, outBlock (gLd x0 n) (car x0 n.val)⟩

theorem out_pieces : out0_1 x0 = View.canon (([31, 30, 29, 28, 27, 26, 25, 24, 23, 22, 21, 20, 19, 18, 17, 16, 15, 14, 13, 12, 11, 10, 9, 8, 7, 6, 5, 4, 3, 2, 1, 0] : List (Fin 32)).map (gPiece x0)) := by
  unfold out0_1
  rw [piece_31, piece_30, piece_29, piece_28, piece_27, piece_26, piece_25, piece_24, piece_23, piece_22, piece_21, piece_20, piece_19, piece_18, piece_17, piece_16, piece_15, piece_14, piece_13, piece_12, piece_11, piece_10, piece_9, piece_8, piece_7, piece_6, piece_5, piece_4, piece_3, piece_2, piece_1, piece_0]
  rfl

theorem canon_hit (L : List (Fin 32)) (n : Fin 32) (hn : n ∈ L) (r : Fin 96) (k : Fin 128) (j : Fin 4096) (hj : j.val = 128 * n.val + k.val) :
    View.canon (L.map (gPiece x0)) (ix2 r j) = outBlock (gLd x0 n) (car x0 n.val) (ix2 r k) := by
  induction L with
  | nil => cases hn
  | cons a L ih =>
    rw [List.map_cons]
    by_cases e : n = a
    · subst e
      rw [← gRect_emb n r k j hj]
      exact View.canon_cons_emb (Val := Elt Ideal) (e := .f32) (gRect n) (outBlock (gLd x0 n) (car x0 n.val)) _ (ix2 r k : S96x128.Idx)
    · have hk := k.isLt
      have hne : n.val ≠ a.val := fun e' => e (Fin.ext e')
      have hy : (ix2 r j : S96x4096.Idx) ∉ (gPiece x0 a).1.set := by
        apply (gRect a).not_mem_set_of_axis (ix2 r j) 1 (128 * a.val) 128 rfl rfl rfl
        show j.val < 128 * a.val ∨ 128 * a.val + 128 ≤ j.val
        omega
      exact (View.canon_cons_of_not_mem (gPiece x0 a) _ hy).trans (ih ((List.mem_cons.mp hn).resolve_left e))

/-- The log-sigmoid of gate `j` of row `r`. -/
def gl (r : Fin 96) (j : ℕ) : EReal := lsg (x0 (ix2 r (Fin.ofNat 4096 j)))

theorem gl_block (n : Fin 32) (r : Fin 96) (k : Fin 128) : gl x0 r (128 * n.val + k.val) = lsg (gLd x0 n (ix2 r k)) := by
  have hn := n.isLt
  have hk := k.isLt
  rw [gLd_apply x0 n r k (Fin.ofNat 4096 (128 * n.val + k.val)) (by simp only [Fin.ofNat]; omega)]
  rfl

/-- The carry into block `n` is the sum of all the blocks before it. -/
theorem car_apply (r : Fin 96) (n : ℕ) (hn : n < 32) : car x0 n (ix2 r (0 : Fin 1)) = ∑ j ∈ Finset.range (128 * n), gl x0 r j := by
  induction n with
  | zero =>
    show k0_pay2 (F := Ideal) (ix2 r (0 : Fin 1)) = _
    unfold k0_pay2
    rw [Nat.mul_zero, Finset.sum_range_zero]
    pointwise
  | succ n ih =>
    have e : (Fin.ofNat 32 n).val = n := by simp only [Fin.ofNat]; omega
    refine (carryBlock_apply (gLd x0 (Fin.ofNat 32 n)) (car x0 n) r (gl x0 r) (128 * n) (fun k => ?_) (ih (by omega))).trans ?_
    · have := gl_block x0 (Fin.ofNat 32 n) r k
      rwa [e] at this
    · rw [show 128 * n + 128 = 128 * (n + 1) by omega]

/-- The gate kernel's output: the running sum of the log-sigmoids, in base 2. -/
theorem out_apply (r : Fin 96) (j : Fin 4096) : out0_1 x0 (ix2 r j) = (∑ i ∈ Finset.range (j.val + 1), gl x0 r i) * (Online.L : EReal) := by
  have hj := j.isLt
  have e : j.val = 128 * (⟨j.val / 128, by omega⟩ : Fin 32).val + (⟨j.val % 128, by omega⟩ : Fin 128).val := by
    show j.val = 128 * (j.val / 128) + j.val % 128; omega
  have hm : ∀ n : Fin 32, n ∈ ([31, 30, 29, 28, 27, 26, 25, 24, 23, 22, 21, 20, 19, 18, 17, 16, 15, 14, 13, 12, 11, 10, 9, 8, 7, 6, 5, 4, 3, 2, 1, 0] : List (Fin 32)) := by decide
  rw [out_pieces, canon_hit x0 _ _ (hm _) r _ j e,
    outBlock_apply _ _ r _ (gl x0 r) _ (gl_block x0 _ r) (car_apply x0 r _ (Fin.isLt _)), ← e]

theorem ixg0 (t : Fin cfg0.N) (a : Fin 2) : win0_0.index t a = 0 := rfl
theorem ixg1 (t : Fin cfg0.N) (a : Fin 2) : win0_1.index t a = 0 := rfl

/-- The gate array after the run. -/
theorem gate_arr (V : (c : Dev nD) → (b : Ref sig .tc) → Buf (Elt Ideal) ((c : Thread nD τ).loc b)) (c : Dev nD) :
    (dat0 V c).arrAt 1 cfg0.N = (fun x : S96x4096.Idx => (∑ i ∈ Finset.range ((x 1).val + 1), gl (V c main_v1) (x 0) i) * (Online.L : EReal)) := by
  refine (dat0 V c).arrAt_eq_of_covers 1 _ (by decide +kernel) fun t hf y => ?_
  blk_simp
  rw [after0_1]
  obtain ⟨r, j, rfl⟩ : ∃ (r : Fin 96) (j : Fin 4096), y = (ix2 r j : S96x4096.Idx) := ⟨y 0, y 1, by funext a; fin_cases a <;> rfl⟩
  have hE : (win0_1.blk t).view.emb (ix2 r j) = (ix2 r j : S96x4096.Idx) := by
    blk_ext [ixg1]
  have hI : iblk0 V c 0 t = V c main_v1 := by
    funext z
    obtain ⟨r, j, rfl⟩ : ∃ (r : Fin 96) (j : Fin 4096), z = (ix2 r j : S96x4096.Idx) := ⟨z 0, z 1, by funext a; fin_cases a <;> rfl⟩
    blk_simp [iblk0]
    blk_ext [ixg0]
  rw [hE, hI]
  rw [ixg1, Nat.zero_mul, Nat.zero_add]
  exact out_apply (V c main_v1) r j

end Cert.Gate
-- ==== Proof.Tile.lean ====
/- One head on one 256 × 256 tile of scores, as the attention kernel computes it, written once for all eight heads: the
   base-2 scores, the masked scores of the diagonal tile, and the updates of the running maximum, the running weight sum and
   the running weighted value sum. -/
module

public import proofs.«01_k».proof.Proof.Gen.KernelIdeal.Frame

@[expose] public section

set_option maxRecDepth 16384

noncomputable section

namespace Cert.Tile

open Cert.KernelIdeal Cert.KernelIdeal.Gen Idealize.ShloMosaic Idealize.ShloMosaic.TcCoe Idealize.SL.Sem

variable {F : FTy → Type} [FloatOps F] [Named F]

/-- The scale of one 128 × 128 quarter of a tile: query scale times key scale times the score constant. -/
def quarterScale (a b : Elt F .f32) : F .f32 := Scalar.mulf (Scalar.mulf a b) (Named.named κ "score_scale" 0x3E16C740#32)

/-- The raw products of a key tile with a query tile, keys along the rows. -/
def raw (kt : Vec F S1x1x256x96 .fp8e4m3) (q : Vec F S1x1x256x96 .fp8e4m3) : FVec F S256x256 .f32 :=
  matmul dot_S256x96_S256x96_S256x256_1_1_0_0_n_n none (shapeCast S256x96 kt shapeCasts_S1x1x256x96_S256x96)
    (shapeCast S256x96 q shapeCasts_S1x1x256x96_S256x96) (constant S256x256 .f32 0x00000000#32)

/-- The base-2 scores of a tile: each quarter of the raw products scaled by its quarter's scale, plus the difference of the
    query's and the key's running gate sums. -/
def score (kt q : Vec F S1x1x256x96 .fp8e4m3) (a0 a1 b0 b1 : Elt F .f32) (cr : Vec F S1x1x256 .f32)
    (cc : Vec F S1x1x256x1 .f32) : FVec F S256x256 .f32 :=
  addf
    (concatenate S256x256 0
      [⟨S128x256, concatenate S128x256 1
        [⟨S128x128, mulf (extractStridedSlice S128x128 ![0, 0] (raw kt q) slices_S256x256_o0_0_S128x128) (broadcast S128x128 (quarterScale a0 b0))⟩,
         ⟨S128x128, mulf (extractStridedSlice S128x128 ![0, 128] (raw kt q) slices_S256x256_o0_128_S128x128) (broadcast S128x128 (quarterScale a1 b0))⟩]
        concatenates_S128x128_S128x128_S128x256_d1⟩,
       ⟨S128x256, concatenate S128x256 1
        [⟨S128x128, mulf (extractStridedSlice S128x128 ![128, 0] (raw kt q) slices_S256x256_o128_0_S128x128) (broadcast S128x128 (quarterScale a0 b1))⟩,
         ⟨S128x128, mulf (extractStridedSlice S128x128 ![128, 128] (raw kt q) slices_S256x256_o128_128_S128x128) (broadcast S128x128 (quarterScale a1 b1))⟩]
        concatenates_S128x128_S128x128_S128x256_d1⟩]
      concatenates_S128x256_S128x256_S256x256_d0)
    (subf (broadcastTo S256x256 (shapeCast S1x256 cr shapeCasts_S1x1x256_S1x256) broadcasts_S1x256_S256x256)
      (broadcastTo S256x256 (shapeCast S256x1 cc shapeCasts_S1x1x256x1_S256x1) broadcasts_S256x1_S256x256))

/-- The scores of the diagonal tile: where the key's row exceeds the query's column, the mask value. -/
def masked (s : FVec F S256x256 .f32) : FVec F S256x256 .f32 :=
  select (cmpi .sle (iota Kind.tc S256x256 32 [0] iota_S256x256_d0_w32) (iota Kind.tc S256x256 32 [1] iota_S256x256_d1_w32)) s
    (broadcast S256x256 (Named.named κ "masked" 0xF149F2CA#32))

/-- The running maximum after a tile. -/
def mNew (s : FVec F S256x256 .f32) (m : Vec F S1x256 .f32) : FVec F S1x256 .f32 :=
  maximumf m (shapeCast S1x256 (multiReduction .maximumf [0] S256 s 0xFF800000#32 reduces_S256x256_S256 (.inl rfl) rfl) shapeCasts_S256_S1x256)

/-- The factor that rescales the earlier sums to the new maximum. -/
def alpha (s : FVec F S256x256 .f32) (m : Vec F S1x256 .f32) : FVec F S1x256 .f32 := exp2 (subf m (mNew s m))

/-- The tile's weights relative to the new maximum. -/
def wts (s : FVec F S256x256 .f32) (m : Vec F S1x256 .f32) : FVec F S256x256 .f32 :=
  exp2 (subf s (broadcastTo S256x256 (mNew s m) broadcasts_S1x256_S256x256))

/-- The row of running maxima as stored. -/
def mSt (s : FVec F S256x256 .f32) (m : Vec F S1x256 .f32) : FVec F S1x256 .f32 := shapeCast S1x256 (mNew s m) shapeCasts_S1x256_S1x256

/-- The row of running weight sums as stored. -/
def lSt (s : FVec F S256x256 .f32) (m l : Vec F S1x256 .f32) : FVec F S1x256 .f32 :=
  shapeCast S1x256 (addf (mulf l (alpha s m))
    (shapeCast S1x256 (multiReduction .add [0] S256 (wts s m) 0x00000000#32 reduces_S256x256_S256 (.inl rfl) rfl) shapeCasts_S256_S1x256))
    shapeCasts_S1x256_S1x256

/-- The slab of running weighted value sums as stored. -/
def oSt (s : FVec F S256x256 .f32) (m : Vec F S1x256 .f32) (v : Vec F S1x1x96x256 .fp8e4m3) (o : Vec F S1x96x256 .f32) : FVec F S1x96x256 .f32 :=
  shapeCast S1x96x256 (addf (mulf (shapeCast S96x256 o shapeCasts_S1x96x256_S96x256) (broadcastTo S96x256 (alpha s m) broadcasts_S1x256_S96x256))
    (matmul dot_S96x256_S256x256_S96x256_1_0_0_1_n_n none (k1_pay199 v) (truncf .bf16 (wts s m) bitsLt_bf16_f32) (constant S96x256 .f32 0x00000000#32)))
    shapeCasts_S96x256_S1x96x256

end Cert.Tile
-- ==== Proof.Heads.lean ====
/- Where the attention kernel's loads and stores land, and one trip of its loop over key tiles as a list of stores, written
   uniformly in the head: head `h` stores its row of running maxima, its row of weight sums and its slab of weighted value
   sums, each computed from the tile's scores and from what the row held before the trip. -/
module

public import proofs.«01_k».proof.Proof.Tile

@[expose] public section

set_option maxRecDepth 16384

noncomputable section

namespace Cert.Tile

open Cert.KernelIdeal Cert.KernelIdeal.Gen Idealize.ShloMosaic Idealize.ShloMosaic.TcCoe Idealize.SL.Sem

variable {F : FTy → Type} [FloatOps F] [Named F]

theorem muli_toNat {w : BitVec 32} (hw : w.toNat < 16) : (Scalar.muli w 256#32).toNat = 256 * w.toNat := by
  show (w * 256#32).toNat = _
  rw [BitVec.toNat_mul]; simp only [BitVec.toNat_ofNat]; omega

theorem muli2_toNat {w : BitVec 32} (hw : w.toNat < 16) (a : Fin 2) :
    (Scalar.addi (Scalar.muli w 2#32) (BitVec.ofNat 32 a)).toNat = 2 * w.toNat + a := by
  show (w * 2#32 + BitVec.ofNat 32 a).toNat = _
  rw [BitVec.toNat_add, BitVec.toNat_mul]; simp only [BitVec.toNat_ofNat]; omega

theorem muli8_toNat (g : Fin 2) (h : Fin 8) :
    (Scalar.addi (Scalar.muli (BitVec.ofNat 32 g) 8#32) (BitVec.ofNat 32 h)).toNat = 8 * g + h := by
  show (BitVec.ofNat 32 g * 8#32 + BitVec.ofNat 32 h).toNat = _
  rw [BitVec.toNat_add, BitVec.toNat_mul]; simp only [BitVec.toNat_ofNat]; omega

theorem ofNat_toNat {n : ℕ} (hn : n < 16) : (BitVec.ofNat 32 n).toNat = n := by
  rw [BitVec.toNat_ofNat]; omega

/-- The rows of the key tile with index word `w`. -/
def kRect (w : BitVec 32) (hw : w.toNat < 16) : Rect S1x1x4096x96 :=
  Rect.unit ![0, 0, (Scalar.muli w 256#32).toNat, 0] S1x1x256x96.size (by
    intro a; have := muli_toNat hw; fin_cases a <;> simp [S1x1x256x96, S1x1x4096x96] <;> omega)

/-- The columns of the value tile with index word `w`. -/
def vRect (w : BitVec 32) (hw : w.toNat < 16) : Rect S1x1x96x4096 :=
  Rect.unit ![0, 0, 0, (Scalar.muli w 256#32).toNat] S1x1x96x256.size (by
    intro a; have := muli_toNat hw; fin_cases a <;> simp [S1x1x96x256, S1x1x96x4096] <;> omega)

/-- Head `h`'s column of the running gate sums over the key tile with index word `w`. -/
def ccRect (w : BitVec 32) (hw : w.toNat < 16) (h : Fin 8) : Rect S1x1x4096x8 :=
  Rect.unit ![0, 0, (Scalar.muli w 256#32).toNat, h] S1x1x256x1.size (by
    intro a; have := muli_toNat hw; have := h.2; fin_cases a <;> simp [S1x1x256x1, S1x1x4096x8] <;> omega)

/-- Head `h`'s row of the running gate sums over the query tile. -/
def crRect (h : Fin 8) : Rect S1x8x256 :=
  Rect.unit ![0, h, 0] S1x1x256.size (by
    intro a; have := h.2; fin_cases a <;> simp [S1x1x256, S1x8x256] <;> omega)

/-- Head `h`'s query tile. -/
def qRect (h : Fin 8) : Rect S1x8x256x96 :=
  Rect.unit ![0, h, 0, 0] S1x1x256x96.size (by
    intro a; have := h.2; fin_cases a <;> simp [S1x1x256x96, S1x8x256x96] <;> omega)

/-- The scale of half `a` of the query tile of grid point `i` for head `h` of the point's group. -/
def qsRect (i : grid1.Coords) (a : Fin 2) (h : Fin 8) : Rect S6x32x16 :=
  Rect.unit ![(BitVec.ofNat 32 (i 0)).toNat, (Scalar.addi (Scalar.muli (BitVec.ofNat 32 (i 2)) 2#32) (BitVec.ofNat 32 a)).toNat,
      (Scalar.addi (Scalar.muli (BitVec.ofNat 32 (i 1)) 8#32) (BitVec.ofNat 32 h)).toNat] S1x1x1.size (by
    have h0 : (i 0 : ℕ) < 6 := (i 0).isLt
    have h1 : (i 1 : ℕ) < 2 := (i 1).isLt
    have h2 : (i 2 : ℕ) < 16 := (i 2).isLt
    have e0 := ofNat_toNat (n := i 0) (by omega)
    have e2 := muli2_toNat (w := BitVec.ofNat 32 (i 2)) (by rw [ofNat_toNat h2]; exact h2) a
    rw [ofNat_toNat h2] at e2
    have e1 := muli8_toNat ⟨i 1, h1⟩ h
    intro b; fin_cases b <;> simp [S1x1x1, S6x32x16] at * <;> omega)

/-- The scale of half `a` of the key tile with index word `w`, for the group of grid point `i`. -/
def ksRect (i : grid1.Coords) (w : BitVec 32) (hw : w.toNat < 16) (a : Fin 2) : Rect S6x32x2 :=
  Rect.unit ![(BitVec.ofNat 32 (i 0)).toNat, (Scalar.addi (Scalar.muli w 2#32) (BitVec.ofNat 32 a)).toNat,
      (BitVec.ofNat 32 (i 1)).toNat] S1x1x1.size (by
    have h0 : (i 0 : ℕ) < 6 := (i 0).isLt
    have h1 : (i 1 : ℕ) < 2 := (i 1).isLt
    have e0 := ofNat_toNat (n := i 0) (by omega)
    have e2 := muli2_toNat hw a
    have e1 := ofNat_toNat (n := i 1) (by omega)
    intro b; fin_cases b <;> simp [S1x1x1, S6x32x2] at * <;> omega)

/-- Row `h` of the running maxima and of the running weight sums. -/
def row (h : Fin 8) : Rect S8x256 :=
  Rect.unit ![h, 0] S1x256.size (by
    intro a; have := h.2; fin_cases a <;> simp [S1x256, S8x256] <;> omega)

/-- Slab `h` of the running weighted value sums. -/
def slab (h : Fin 8) : Rect S8x96x256 :=
  Rect.unit ![h, 0, 0] S1x96x256.size (by
    intro a; have := h.2; fin_cases a <;> simp [S1x96x256, S8x96x256] <;> omega)

/-- A one-element block has an element. -/
theorem one_pos : 0 < S1x1x1.numel := by decide

/-- Head `h`'s scores on the key tile with index word `w`, from the contents of the kernel's operands. -/
def sc (i : grid1.Coords) (w : BitVec 32) (hw : w.toNat < 16) (x0 : Vec F S6x32x16 .f32) (x1 : Vec F S6x32x2 .f32)
    (x2 : Vec F S1x8x256x96 .fp8e4m3) (x3 : Vec F S1x1x4096x96 .fp8e4m3) (x5 : Vec F S1x8x256 .f32) (x6 : Vec F S1x1x4096x8 .f32)
    (h : Fin 8) : FVec F S256x256 .f32 :=
  score (View.ld x3 (kRect w hw)) (View.ld x2 (qRect h))
    (View.ld x0 (qsRect i 0 h) (Shape.Idx.first one_pos)) (View.ld x0 (qsRect i 1 h) (Shape.Idx.first one_pos))
    (View.ld x1 (ksRect i w hw 0) (Shape.Idx.first one_pos)) (View.ld x1 (ksRect i w hw 1) (Shape.Idx.first one_pos))
    (View.ld x5 (crRect h)) (View.ld x6 (ccRect w hw h))

/-- What head `h` stores as its row of maxima, given the tile's scores and what the scratch array held. -/
def piece13 (s : Fin 8 → FVec F S256x256 .f32) (m : Vec F S8x256 .f32) (h : Fin 8) : View.Piece (Elt F) S8x256 .f32 :=
  ⟨row h, mSt (s h) (View.ld m (row h))⟩

/-- What head `h` stores as its row of weight sums. -/
def piece14 (s : Fin 8 → FVec F S256x256 .f32) (m l : Vec F S8x256 .f32) (h : Fin 8) : View.Piece (Elt F) S8x256 .f32 :=
  ⟨row h, lSt (s h) (View.ld m (row h)) (View.ld l (row h))⟩

/-- What head `h` stores as its slab of weighted value sums. -/
def piece15 (s : Fin 8 → FVec F S256x256 .f32) (v : Vec F S1x1x96x256 .fp8e4m3) (m : Vec F S8x256 .f32) (o : Vec F S8x96x256 .f32) (h : Fin 8) :
    View.Piece (Elt F) S8x96x256 .f32 :=
  ⟨slab h, oSt (s h) (View.ld m (row h)) v (View.ld o (slab h))⟩

/-- The index word of trip `k`. -/
def tripWord (k : ℕ) : BitVec 32 := Scf.iv 0#32 1#32 k

theorem tripWord_toNat {k : ℕ} (hk : k < 16) : (tripWord k).toNat = k := by
  show (0#32 + BitVec.ofNat 32 k * 1#32).toNat = k
  rw [BitVec.zero_add, BitVec.mul_one, BitVec.toNat_ofNat]; omega

section trip

variable (𝒱 : Variants) (c : Dev nD) (bd : Option 𝒱.V) (i : grid1.Coords) (arg3 : Memref sig .tc .smem S6x32x16 .f32) (harg3 : arg3.IsWhole) (arg4 : Memref sig .tc .smem S6x32x2 .f32) (harg4 : arg4.IsWhole) (arg5 : Memref sig .tc .vmem S1x8x256x96 .fp8e4m3) (harg5 : arg5.IsWhole) (arg6 : Memref sig .tc .vmem S1x1x4096x96 .fp8e4m3) (harg6 : arg6.IsWhole) (arg7 : Memref sig .tc .vmem S1x1x96x4096 .fp8e4m3) (harg7 : arg7.IsWhole) (arg8 : Memref sig .tc .vmem S1x8x256 .f32) (harg8 : arg8.IsWhole) (arg9 : Memref sig .tc .vmem S1x1x4096x8 .f32) (harg9 : arg9.IsWhole) (arg10 : Memref sig .tc .vmem S1x1x96x1 .f32) (harg10 : arg10.IsWhole) (arg11 : Memref sig .tc .vmem S1x256x768 .bf16) (harg11 : arg11.IsWhole) (arg12 : Memref sig .tc .vmem S1x1x8x256 .f32) (harg12 : arg12.IsWhole) (arg13 : Memref sig .tc .vmem S8x256 .f32) (harg13 : arg13.IsWhole) (arg14 : Memref sig .tc .vmem S8x256 .f32) (harg14 : arg14.IsWhole) (arg15 : Memref sig .tc .vmem S8x96x256 .f32) (harg15 : arg15.IsWhole)
  (arg0 arg1 arg2 : BitVec 32)
  (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty)
  (k : Fin (k1_t1_loop i).trips) (acc : BitVec 32) (f13 : BufTy.Contents (Elt F) arg13.view.ty)
  (f14 : BufTy.Contents (Elt F) arg14.view.ty) (f15 : BufTy.Contents (Elt F) arg15.view.ty)
  (hw : (tripWord k.val).toNat < 16)

/-- The scores of trip `k`. -/
abbrev tripScore : Fin 8 → FVec F S256x256 .f32 :=
  sc i (tripWord k.val) hw (arg3.view.read (Elt F) X_arg3) (arg4.view.read (Elt F) X_arg4) (arg5.view.read (Elt F) X_arg5)
    (arg6.view.read (Elt F) X_arg6) (arg8.view.read (Elt F) X_arg8) (arg9.view.read (Elt F) X_arg9)

/-- Trip `k`'s stores into the running maxima, last first. -/
theorem trip13 : (trip_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg0 arg1 arg2 X_arg3 X_arg4 X_arg5 X_arg6 X_arg7 X_arg8 X_arg9 k).2.1 acc f13 f14 f15
    = [7, 6, 5, 4, 3, 2, 1, 0].map (piece13 (tripScore i arg3 arg4 arg5 arg6 arg8 arg9 X_arg3 X_arg4 X_arg5 X_arg6 X_arg8 X_arg9 k hw)
        (arg13.view.read (Elt F) f13)) := by
  unfold trip_k1_t1
  rfl

/-- Trip `k`'s stores into the running weight sums, last first. -/
theorem trip14 : (trip_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg0 arg1 arg2 X_arg3 X_arg4 X_arg5 X_arg6 X_arg7 X_arg8 X_arg9 k).2.2.1 acc f13 f14 f15
    = [7, 6, 5, 4, 3, 2, 1, 0].map (piece14 (tripScore i arg3 arg4 arg5 arg6 arg8 arg9 X_arg3 X_arg4 X_arg5 X_arg6 X_arg8 X_arg9 k hw)
        (arg13.view.read (Elt F) f13) (arg14.view.read (Elt F) f14)) := by
  unfold trip_k1_t1
  rfl

/-- Trip `k`'s stores into the running weighted value sums, last first. -/
theorem trip15 : (trip_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg0 arg1 arg2 X_arg3 X_arg4 X_arg5 X_arg6 X_arg7 X_arg8 X_arg9 k).2.2.2.1 acc f13 f14 f15
    = [7, 6, 5, 4, 3, 2, 1, 0].map (piece15 (tripScore i arg3 arg4 arg5 arg6 arg8 arg9 X_arg3 X_arg4 X_arg5 X_arg6 X_arg8 X_arg9 k hw)
        (View.ld (arg7.view.read (Elt F) X_arg7) (vRect (tripWord k.val) hw)) (arg13.view.read (Elt F) f13) (arg15.view.read (Elt F) f15)) := by
  unfold trip_k1_t1
  rfl

end trip

end Cert.Tile
-- ==== Proof.TileVal.lean ====
/- The values of one head's tile over the extended reals, read at an index. -/
module

public import proofs.«01_k».proof.Proof.Tile
public import Idealize.ShloMosaic.Lib.Pointwise
public import Idealize.ShloMosaic.Lib.WordCmp
public import Idealize.ShloMosaic.PureOps.Ideal.Laws

@[expose] public section

set_option maxRecDepth 16384

noncomputable section

namespace Cert.Tile

open Cert.KernelIdeal Cert.KernelIdeal.Gen Idealize.ShloMosaic Idealize.ShloMosaic.TcCoe Idealize.SL.Sem

/-- The score constant's value. -/
def κs : EReal := (((Real.log 2 * Real.sqrt 96)⁻¹ : ℝ) : EReal)

theorem quarterScale_eq (a b : EReal) : quarterScale (F := Ideal) a b = a * b * κs := by
  show a * b * Named.named (F := Ideal) κ "score_scale" (φ := .f32) 0x3E16C740#32 = _
  rw [IdealRules.named_const.ideal_named_scalar _ _ _ _ rfl]
  rfl

theorem raw_apply (kt q : Vec Ideal S1x1x256x96 .fp8e4m3) (r c : Fin 256) :
    raw (F := Ideal) kt q (ix2 r c) = ∑ d : Fin 96, kt (ix4 0 0 r d) * q (ix4 0 0 c d) := by
  unfold raw
  pointwise

theorem score_apply (kt q : Vec Ideal S1x1x256x96 .fp8e4m3) (a0 a1 b0 b1 : EReal) (cr : Vec Ideal S1x1x256 .f32)
    (cc : Vec Ideal S1x1x256x1 .f32) (r c : Fin 256) :
    score (F := Ideal) kt q a0 a1 b0 b1 cr cc (ix2 r c)
      = (∑ d : Fin 96, kt (ix4 0 0 r d) * q (ix4 0 0 c d)) * ((if c.val < 128 then a0 else a1) * (if r.val < 128 then b0 else b1) * κs)
        + (cr (ix3 0 0 c) - cc (ix4 0 0 r 0)) := by
  unfold score
  rw [← raw_apply]
  generalize raw (F := Ideal) kt q = R
  pointwise
  simp only [quarterScale_eq]
  by_cases hr : r.val < 128 <;> by_cases hc : c.val < 128
  · simp only [hr, hc, dif_pos, if_pos]
  · have e : (⟨128 + (c.val - 128), by have := c.isLt; omega⟩ : Fin 256) = c := Fin.ext (by simp; omega)
    simp only [hr, hc, dif_pos, if_pos, dif_neg, if_neg, not_false_eq_true, e]
  · have e : (⟨128 + (r.val - 128), by have := r.isLt; omega⟩ : Fin 256) = r := Fin.ext (by simp; omega)
    simp only [hr, hc, dif_pos, if_pos, dif_neg, if_neg, not_false_eq_true, e]
  · have e : (⟨128 + (r.val - 128), by have := r.isLt; omega⟩ : Fin 256) = r := Fin.ext (by simp; omega)
    have e' : (⟨128 + (c.val - 128), by have := c.isLt; omega⟩ : Fin 256) = c := Fin.ext (by simp; omega)
    simp only [hr, hc, dif_neg, if_neg, not_false_eq_true, e, e']

theorem tile_sle (r c : Fin 256) : IntOp.cmpi .sle (BitVec.ofNat 32 r.val) (BitVec.ofNat 32 c.val) = 1#1 ↔ r.val ≤ c.val := by
  have hr := r.isLt
  have hc := c.isLt
  rw [Idealize.ShloMosaic.WordCmp.cmpi_sle_of_lt (by simp; omega) (by simp; omega)]
  simp only [BitVec.toNat_ofNat]
  rw [Nat.mod_eq_of_lt (by omega), Nat.mod_eq_of_lt (by omega)]
  by_cases h : r.val ≤ c.val <;> simp [h]

theorem tile_sle' (r c : Fin 256) : IntOp.cmpi .sle (BitVec.ofNat 32 r.val) (BitVec.ofNat 32 c.val) = 0#1 ↔ ¬ r.val ≤ c.val := by
  have hr := r.isLt
  have hc := c.isLt
  rw [Idealize.ShloMosaic.WordCmp.cmpi_sle_of_lt (by simp; omega) (by simp; omega)]
  simp only [BitVec.toNat_ofNat]
  rw [Nat.mod_eq_of_lt (by omega), Nat.mod_eq_of_lt (by omega)]
  by_cases h : r.val ≤ c.val <;> simp [h]

theorem masked_apply (s : FVec Ideal S256x256 .f32) (r c : Fin 256) :
    masked (F := Ideal) s (ix2 r c) = if r.val ≤ c.val then s (ix2 r c) else ⊥ := by
  unfold masked
  pointwise
  rw [show Named.named (F := Ideal) κ "masked" (φ := .f32) 0xF149F2CA#32 = ⊥ from IdealRules.named_const.ideal_named_scalar _ _ _ _ rfl]
  by_cases h : r.val ≤ c.val
  · rw [if_pos h, (tile_sle r c).2 h]; rfl
  · rw [if_neg h, (tile_sle' r c).2 h]; rfl

theorem mNew_apply (s : FVec Ideal S256x256 .f32) (m : Vec Ideal S1x256 .f32) (c : Fin 256) :
    mNew (F := Ideal) s m (ix2 0 c) = max (m (ix2 0 c)) (Finset.univ.sup fun r : Fin 256 => s (ix2 r c)) := by
  unfold mNew
  pointwise
  rw [show Ideal.ofBits FTy.f32 4286578688#32 = ⊥ from by simp [Ideal.ofBits, Ideal.ieee]]
  rfl

theorem lSt_apply (s : FVec Ideal S256x256 .f32) (m l : Vec Ideal S1x256 .f32) (c : Fin 256) :
    lSt (F := Ideal) s m l (ix2 0 c) = l (ix2 0 c) * Ideal.exp2 (m (ix2 0 c) - mNew (F := Ideal) s m (ix2 0 c))
      + ∑ r : Fin 256, Ideal.exp2 (s (ix2 r c) - mNew (F := Ideal) s m (ix2 0 c)) := by
  unfold lSt alpha wts
  generalize mNew (F := Ideal) s m = M
  pointwise
  rfl

theorem oSt_apply (s : FVec Ideal S256x256 .f32) (m : Vec Ideal S1x256 .f32) (v : Vec Ideal S1x1x96x256 .fp8e4m3) (o : Vec Ideal S1x96x256 .f32)
    (d : Fin 96) (c : Fin 256) :
    oSt (F := Ideal) s m v o (ix3 0 d c) = o (ix3 0 d c) * Ideal.exp2 (m (ix2 0 c) - mNew (F := Ideal) s m (ix2 0 c))
      + ∑ r : Fin 256, v (ix4 0 0 d r) * Ideal.exp2 (s (ix2 r c) - mNew (F := Ideal) s m (ix2 0 c)) := by
  unfold oSt alpha wts k1_pay199
  generalize mNew (F := Ideal) s m = M
  pointwise
  rfl

theorem mSt_eq (s : FVec Ideal S256x256 .f32) (m : Vec Ideal S1x256 .f32) : mSt (F := Ideal) s m = mNew (F := Ideal) s m :=
  shapeCast_self _ _

end Cert.Tile
-- ==== Proof.Fold.lean ====
/- One tile folded into the scratch arrays: the eight heads' stores read back, and the running maximum, weight sum and
   weighted value sum of the keys met so far carried over one more tile. -/
module

public import proofs.«01_k».proof.Proof.Heads
public import proofs.«01_k».proof.Proof.TileVal
public import proofs.«01_k».proof.Proof.Online
public import Idealize.ShloMosaic.Lib.WritesUnit

@[expose] public section

set_option maxRecDepth 16384

noncomputable section

namespace Cert.Tile

open Cert.KernelIdeal Cert.KernelIdeal.Gen Idealize.ShloMosaic Idealize.ShloMosaic.TcCoe Idealize.SL.Sem

/-- Entry `q` of row `h`. -/
theorem row_emb (h : Fin 8) (q : Fin 256) : (row h).emb (ix2 (0 : Fin 1) q) = ix2 h q := by
  apply (row h).emb_eq_of_coords
  intro a; fin_cases a <;> simp [row, Rect.unit]

theorem slab_emb (h : Fin 8) (d : Fin 96) (q : Fin 256) : (slab h).emb (ix3 (0 : Fin 1) d q) = ix3 h d q := by
  apply (slab h).emb_eq_of_coords
  intro a; fin_cases a <;> simp [slab, Rect.unit]

/-- Row `h` of an array. -/
def ldRow (m : Vec Ideal S8x256 .f32) (h : Fin 8) : Vec Ideal S1x256 .f32 := View.ld m (row h)

/-- Slab `h` of an array. -/
def ldSlab (m : Vec Ideal S8x96x256 .f32) (h : Fin 8) : Vec Ideal S1x96x256 .f32 := View.ld m (slab h)

theorem ld_row (m : Vec Ideal S8x256 .f32) (h : Fin 8) (q : Fin 256) : ldRow m h (ix2 0 q) = m (ix2 h q) :=
  congrArg m (row_emb h q)

theorem ld_slab (m : Vec Ideal S8x96x256 .f32) (h : Fin 8) (d : Fin 96) (q : Fin 256) :
    ldSlab m h (ix3 0 d q) = m (ix3 h d q) :=
  congrArg m (slab_emb h d q)

theorem not_mem_row {h h' : Fin 8} (hh : h ≠ h') (q : Fin 256) : (ix2 h q : S8x256.Idx) ∉ (row h').set := by
  apply (row h').not_mem_set_of_axis (ix2 h q) 0 h' 1 rfl rfl rfl
  have : h.val ≠ h'.val := fun e => hh (Fin.ext e)
  show h.val < h'.val ∨ h'.val + 1 ≤ h.val
  omega

theorem not_mem_slab {h h' : Fin 8} (hh : h ≠ h') (d : Fin 96) (q : Fin 256) : (ix3 h d q : S8x96x256.Idx) ∉ (slab h').set := by
  apply (slab h').not_mem_set_of_axis (ix3 h d q) 0 h' 1 rfl rfl rfl
  have : h.val ≠ h'.val := fun e => hh (Fin.ext e)
  show h.val < h'.val ∨ h'.val + 1 ≤ h.val
  omega

/-- Row `h` read back after stores by the heads of a list: the head's own store if it is in the list, else what was there. -/
theorem read_rows {κ : Kind} {sp : Space} (v : View sig κ sp S8x256 .f32) (f : v.ty.Contents (Elt Ideal)) (w : ∀ h : Fin 8, (row h).shape.Idx → Elt Ideal .f32)
    (L : List (Fin 8)) (h : Fin 8) (q : Fin 256) :
    v.read (Elt Ideal) (v.writes (Elt Ideal) f (L.map fun h => (⟨row h, w h⟩ : View.Piece (Elt Ideal) S8x256 .f32))) (ix2 h q)
      = if h ∈ L then w h (ix2 (0 : Fin 1) q) else v.read (Elt Ideal) f (ix2 h q) := by
  induction L with
  | nil => rfl
  | cons a L ih =>
    rw [List.map_cons]
    by_cases e : h = a
    · subst e
      rw [if_pos (List.mem_cons_self)]
      exact View.read_writes_cons_hit v f (row h) (w h) _ (ix2 (0 : Fin 1) q) _ (row_emb h q)
    · have hy := not_mem_row e q
      refine (View.read_writes_cons_miss v f ⟨row a, w a⟩ _ _ hy).trans (ih.trans ?_)
      simp only [List.mem_cons, e, false_or]

theorem read_slabs {κ : Kind} {sp : Space} (v : View sig κ sp S8x96x256 .f32) (f : v.ty.Contents (Elt Ideal)) (w : ∀ h : Fin 8, (slab h).shape.Idx → Elt Ideal .f32)
    (L : List (Fin 8)) (h : Fin 8) (d : Fin 96) (q : Fin 256) :
    v.read (Elt Ideal) (v.writes (Elt Ideal) f (L.map fun h => (⟨slab h, w h⟩ : View.Piece (Elt Ideal) S8x96x256 .f32))) (ix3 h d q)
      = if h ∈ L then w h (ix3 (0 : Fin 1) d q) else v.read (Elt Ideal) f (ix3 h d q) := by
  induction L with
  | nil => rfl
  | cons a L ih =>
    rw [List.map_cons]
    by_cases e : h = a
    · subst e
      rw [if_pos (List.mem_cons_self)]
      exact View.read_writes_cons_hit v f (slab h) (w h) _ (ix3 (0 : Fin 1) d q) _ (slab_emb h d q)
    · have hy := not_mem_slab e d q
      refine (View.read_writes_cons_miss v f ⟨slab a, w a⟩ _ _ hy).trans (ih.trans ?_)
      simp only [List.mem_cons, e, false_or]

/-- The scratch arrays hold, for each head and query of the block, the running maximum, weight sum and weighted value sums of
    the first `N` keys. -/
structure Holds (S : Fin 8 → Fin 256 → ℕ → EReal) (V : Fin 96 → ℕ → EReal) (N : ℕ) (m l : Vec Ideal S8x256 .f32) (o : Vec Ideal S8x96x256 .f32) : Prop where
  m : ∀ h q, m (ix2 h q) = Online.mx (S h q) N
  l : ∀ h q, l (ix2 h q) = Online.ls (S h q) N
  o : ∀ h d q, o (ix3 h d q) = Online.ov (S h q) (V d) N

/-- One more tile of 256 keys. -/
theorem Holds.step {S : Fin 8 → Fin 256 → ℕ → EReal} {V : Fin 96 → ℕ → EReal} {N : ℕ} {m l : Vec Ideal S8x256 .f32} {o : Vec Ideal S8x96x256 .f32}
    (H : Holds S V N m l o) (s : Fin 8 → FVec Ideal S256x256 .f32) (vt : Vec Ideal S1x1x96x256 .fp8e4m3)
    (hs : ∀ h (r q : Fin 256), s h (ix2 r q) = S h q (N + r)) (hv : ∀ d (r : Fin 256), vt (ix4 0 0 d r) = V d (N + r))
    {m' l' : Vec Ideal S8x256 .f32} {o' : Vec Ideal S8x96x256 .f32}
    (hm : ∀ h q, m' (ix2 h q) = mSt (s h) (ldRow m h) (ix2 0 q))
    (hl : ∀ h q, l' (ix2 h q) = lSt (s h) (ldRow m h) (ldRow l h) (ix2 0 q))
    (ho : ∀ h d q, o' (ix3 h d q) = oSt (s h) (ldRow m h) vt (ldSlab o h) (ix3 0 d q)) :
    Holds S V (N + 256) m' l' o' := by
  have hM : ∀ h q, mNew (F := Ideal) (s h) (ldRow m h) (ix2 0 q) = Online.mx (S h q) (N + 256) := fun h q => by
    rw [mNew_apply, ld_row, H.m, Online.mx_add]
    congr 2; funext r; exact hs h r q
  refine ⟨fun h q => ?_, fun h q => ?_, fun h d q => ?_⟩
  · rw [hm, mSt_eq, hM]
  · rw [hl, lSt_apply, hM, ld_row, ld_row, H.m, H.l, Online.ls_add]
    congr 1
    exact Finset.sum_congr rfl fun r _ => by rw [hs]
  · rw [ho, oSt_apply, hM, ld_row, ld_slab, H.m, H.o, Online.ov_add]
    congr 1
    exact Finset.sum_congr rfl fun r _ => by rw [hs, hv]

theorem mem_heads (h : Fin 8) : h ∈ ([7, 6, 5, 4, 3, 2, 1, 0] : List (Fin 8)) := by fin_cases h <;> decide

end Cert.Tile
-- ==== Proof.Score.lean ====
/- The base-2 scores of a grid point of the attention kernel, over all keys of the sequence, and one tile of them. -/
module

public import proofs.«01_k».proof.Proof.Fold

@[expose] public section

set_option maxRecDepth 16384

noncomputable section

namespace Cert.Tile

open Cert.KernelIdeal Cert.KernelIdeal.Gen Idealize.ShloMosaic Idealize.ShloMosaic.TcCoe Idealize.SL.Sem

/-- The block index words of a grid point. -/
def gB (i : grid1.Coords) : Fin 6 := ⟨i 0, (i 0).isLt⟩
def gG (i : grid1.Coords) : Fin 2 := ⟨i 1, (i 1).isLt⟩
def gT (i : grid1.Coords) : Fin 16 := ⟨i 2, (i 2).isLt⟩

section

variable (i : grid1.Coords) (x0 : Vec Ideal S6x32x16 .f32) (x1 : Vec Ideal S6x32x2 .f32)
  (x2 : Vec Ideal S1x8x256x96 .fp8e4m3) (x3 : Vec Ideal S1x1x4096x96 .fp8e4m3) (x4 : Vec Ideal S1x1x96x4096 .fp8e4m3)
  (x5 : Vec Ideal S1x8x256 .f32) (x6 : Vec Ideal S1x1x4096x8 .f32)

/-- The unmasked base-2 score of query `q` of the block with key `j`, for head `h` of the group. -/
def bs (h : Fin 8) (q : Fin 256) (j : ℕ) : EReal :=
  (∑ d : Fin 96, x3 (ix4 0 0 (Fin.ofNat 4096 j) d) * x2 (ix4 0 h q d))
      * (x0 (ix3 (gB i) (Fin.ofNat 32 (2 * (gT i).val + q.val / 128)) (Fin.ofNat 16 (8 * (gG i).val + h.val)))
        * x1 (ix3 (gB i) (Fin.ofNat 32 (j / 128)) (gG i)) * κs)
    + (x5 (ix3 0 h q) - x6 (ix4 0 0 (Fin.ofNat 4096 j) h))

/-- The causal base-2 score: `⊥` for keys after the query. -/
def ms (h : Fin 8) (q : Fin 256) (j : ℕ) : EReal :=
  if j ≤ 256 * (gT i).val + q.val then bs i x0 x1 x2 x3 x5 x6 h q j else ⊥

/-- The value of key `j`. -/
def vl (d : Fin 96) (j : ℕ) : EReal := x4 (ix4 0 0 d (Fin.ofNat 4096 j))

theorem first_val (a : Fin 3) : (Shape.Idx.first one_pos a).val = 0 := by
  have h := (Shape.Idx.first one_pos a).isLt
  revert h; fin_cases a <;> simp [S1x1x1]

theorem kRect_emb (w : BitVec 32) (hw : w.toNat < 16) (r : Fin 256) (d : Fin 96) :
    (kRect w hw).emb (ix4 (0 : Fin 1) (0 : Fin 1) r d) = ix4 0 0 (Fin.ofNat 4096 (256 * w.toNat + r.val)) d := by
  have e := muli_toNat hw
  have hr := r.isLt
  apply (kRect w hw).emb_eq_of_coords
  intro a; fin_cases a <;> simp [kRect, Rect.unit, e] <;> omega

theorem vRect_emb (w : BitVec 32) (hw : w.toNat < 16) (d : Fin 96) (r : Fin 256) :
    (vRect w hw).emb (ix4 (0 : Fin 1) (0 : Fin 1) d r) = ix4 0 0 d (Fin.ofNat 4096 (256 * w.toNat + r.val)) := by
  have e := muli_toNat hw
  have hr := r.isLt
  apply (vRect w hw).emb_eq_of_coords
  intro a; fin_cases a <;> simp [vRect, Rect.unit, e] <;> omega

theorem ccRect_emb (w : BitVec 32) (hw : w.toNat < 16) (h : Fin 8) (r : Fin 256) :
    (ccRect w hw h).emb (ix4 (0 : Fin 1) (0 : Fin 1) r (0 : Fin 1)) = ix4 0 0 (Fin.ofNat 4096 (256 * w.toNat + r.val)) h := by
  have e := muli_toNat hw
  have hr := r.isLt
  apply (ccRect w hw h).emb_eq_of_coords
  intro a; fin_cases a <;> simp [ccRect, Rect.unit, e] <;> omega

theorem crRect_emb (h : Fin 8) (q : Fin 256) : (crRect h).emb (ix3 (0 : Fin 1) (0 : Fin 1) q) = ix3 0 h q := by
  apply (crRect h).emb_eq_of_coords
  intro a; fin_cases a <;> simp [crRect, Rect.unit]

theorem qRect_emb (h : Fin 8) (q : Fin 256) (d : Fin 96) : (qRect h).emb (ix4 (0 : Fin 1) (0 : Fin 1) q d) = ix4 0 h q d := by
  apply (qRect h).emb_eq_of_coords
  intro a; fin_cases a <;> simp [qRect, Rect.unit]

theorem qsRect_emb (a : Fin 2) (h : Fin 8) :
    (qsRect i a h).emb (Shape.Idx.first one_pos) = ix3 (gB i) (Fin.ofNat 32 (2 * (gT i).val + a.val)) (Fin.ofNat 16 (8 * (gG i).val + h.val)) := by
  have h0 : (i 0 : ℕ) < 6 := (i 0).isLt
  have h1 : (i 1 : ℕ) < 2 := (i 1).isLt
  have h2 : (i 2 : ℕ) < 16 := (i 2).isLt
  have e0 := ofNat_toNat (n := i 0) (by omega)
  have e2 := muli2_toNat (w := BitVec.ofNat 32 (i 2)) (by rw [ofNat_toNat h2]; exact h2) a
  rw [ofNat_toNat h2] at e2
  have e1 := muli8_toNat ⟨i 1, h1⟩ h
  have ha := a.isLt
  have hh := h.isLt
  apply (qsRect i a h).emb_eq_of_coords
  intro b; have f := first_val b; revert f
  fin_cases b <;> intro f
  · show (i 0 : ℕ) = _ + 1 * (Shape.Idx.first one_pos 0).val
    rw [show (Shape.Idx.first one_pos 0).val = 0 from f]
    show (i 0 : ℕ) = (BitVec.ofNat 32 (i 0)).toNat + 1 * 0
    omega
  · show (2 * (i 2 : ℕ) + a.val) % 32 = _ + 1 * (Shape.Idx.first one_pos 1).val
    rw [show (Shape.Idx.first one_pos 1).val = 0 from f]
    show (2 * (i 2 : ℕ) + a.val) % 32 = (Scalar.addi (Scalar.muli (BitVec.ofNat 32 (i 2)) 2#32) (BitVec.ofNat 32 a)).toNat + 1 * 0
    omega
  · show (8 * (i 1 : ℕ) + h.val) % 16 = _ + 1 * (Shape.Idx.first one_pos 2).val
    rw [show (Shape.Idx.first one_pos 2).val = 0 from f]
    show (8 * (i 1 : ℕ) + h.val) % 16 = (Scalar.addi (Scalar.muli (BitVec.ofNat 32 (i 1)) 8#32) (BitVec.ofNat 32 h)).toNat + 1 * 0
    have e1' : (Scalar.addi (Scalar.muli (BitVec.ofNat 32 (i 1)) 8#32) (BitVec.ofNat 32 h)).toNat = 8 * (i 1 : ℕ) + h.val := e1
    omega

theorem ksRect_emb (w : BitVec 32) (hw : w.toNat < 16) (a : Fin 2) :
    (ksRect i w hw a).emb (Shape.Idx.first one_pos) = ix3 (gB i) (Fin.ofNat 32 (2 * w.toNat + a.val)) (gG i) := by
  have h0 : (i 0 : ℕ) < 6 := (i 0).isLt
  have h1 : (i 1 : ℕ) < 2 := (i 1).isLt
  have e0 := ofNat_toNat (n := i 0) (by omega)
  have e2 := muli2_toNat hw a
  have e1 := ofNat_toNat (n := i 1) (by omega)
  have ha := a.isLt
  apply (ksRect i w hw a).emb_eq_of_coords
  intro b; have f := first_val b; revert f
  fin_cases b <;> intro f
  · show (i 0 : ℕ) = _ + 1 * (Shape.Idx.first one_pos 0).val
    rw [show (Shape.Idx.first one_pos 0).val = 0 from f]
    show (i 0 : ℕ) = (BitVec.ofNat 32 (i 0)).toNat + 1 * 0
    omega
  · show (2 * w.toNat + a.val) % 32 = _ + 1 * (Shape.Idx.first one_pos 1).val
    rw [show (Shape.Idx.first one_pos 1).val = 0 from f]
    show (2 * w.toNat + a.val) % 32 = (Scalar.addi (Scalar.muli w 2#32) (BitVec.ofNat 32 a)).toNat + 1 * 0
    omega
  · show (i 1 : ℕ) = _ + 1 * (Shape.Idx.first one_pos 2).val
    rw [show (Shape.Idx.first one_pos 2).val = 0 from f]
    show (i 1 : ℕ) = (BitVec.ofNat 32 (i 1)).toNat + 1 * 0
    omega

/-- One tile of the scores. -/
theorem sc_apply (w : BitVec 32) (hw : w.toNat < 16) (h : Fin 8) (r q : Fin 256) :
    sc (F := Ideal) i w hw x0 x1 x2 x3 x5 x6 h (ix2 r q) = bs i x0 x1 x2 x3 x5 x6 h q (256 * w.toNat + r.val) := by
  have hr := r.isLt
  have hq := q.isLt
  unfold sc
  refine (score_apply _ _ _ _ _ _ _ _ r q).trans ?_
  unfold bs
  congr 1
  · congr 1
    · refine Finset.sum_congr rfl fun d _ => ?_
      exact congrArg₂ (· * ·) (congrArg x3 (kRect_emb w hw r d)) (congrArg x2 (qRect_emb h q d))
    · congr 2
      · by_cases c : q.val < 128
        · rw [if_pos c, show q.val / 128 = 0 by omega]
          exact congrArg x0 (qsRect_emb i 0 h)
        · rw [if_neg c, show q.val / 128 = 1 by omega]
          exact congrArg x0 (qsRect_emb i 1 h)
      · by_cases c : r.val < 128
        · rw [if_pos c, show (256 * w.toNat + r.val) / 128 = 2 * w.toNat + 0 by omega]
          exact congrArg x1 (ksRect_emb i w hw 0)
        · rw [if_neg c, show (256 * w.toNat + r.val) / 128 = 2 * w.toNat + 1 by omega]
          exact congrArg x1 (ksRect_emb i w hw 1)
  · exact congrArg₂ (· - ·) (congrArg x5 (crRect_emb h q)) (congrArg x6 (ccRect_emb w hw h r))

/-- A tile before the diagonal lies wholly in the causal range. -/
theorem sc_lower (w : BitVec 32) (hw : w.toNat < 16) (hlt : w.toNat < (gT i).val) (h : Fin 8) (r q : Fin 256) :
    sc (F := Ideal) i w hw x0 x1 x2 x3 x5 x6 h (ix2 r q) = ms i x0 x1 x2 x3 x5 x6 h q (256 * w.toNat + r.val) := by
  have hr := r.isLt
  rw [sc_apply, ms, if_pos (by omega)]

/-- The diagonal tile is masked to the causal range. -/
theorem sc_diag (w : BitVec 32) (hw : w.toNat < 16) (he : w.toNat = (gT i).val) (h : Fin 8) (r q : Fin 256) :
    masked (F := Ideal) (sc (F := Ideal) i w hw x0 x1 x2 x3 x5 x6 h) (ix2 r q) = ms i x0 x1 x2 x3 x5 x6 h q (256 * w.toNat + r.val) := by
  rw [masked_apply, sc_apply, ms]
  by_cases c : r.val ≤ q.val
  · rw [if_pos c, if_pos (by omega)]
  · rw [if_neg c, if_neg (by omega)]

/-- The value tile. -/
theorem vt_apply (w : BitVec 32) (hw : w.toNat < 16) (d : Fin 96) (r : Fin 256) :
    View.ld x4 (vRect w hw) (ix4 (0 : Fin 1) (0 : Fin 1) d r) = vl x4 d (256 * w.toNat + r.val) :=
  congrArg x4 (vRect_emb w hw d r)

end

end Cert.Tile
-- ==== Proof.State.lean ====
/- The loop over the key tiles before the diagonal: before trip `n` the scratch arrays hold the running maximum, weight sum
   and weighted value sums of the first `256 n` keys. -/
module

public import proofs.«01_k».proof.Proof.Score

@[expose] public section

set_option maxRecDepth 16384

noncomputable section

namespace Cert.Tile

open Cert.KernelIdeal Cert.KernelIdeal.Gen Idealize.ShloMosaic Idealize.ShloMosaic.TcCoe Idealize.SL.Sem

/-- The loop over whole tiles runs once for each tile before the diagonal. -/
theorem trips_t1 (i : grid1.Coords) : (k1_t1_loop i).trips = (gT i).val := by
  have key : ∀ n : Fin 16, (Scf.Loop.trips { lb := (0#32 : BitVec 32), ub := Scalar.addi 0#32 (Scalar.muli (Scalar.divsi (Scalar.subi (BitVec.ofNat 32 n.val) 0#32) 1#32) 1#32), st := 1#32 }) = n.val := by
    decide +kernel
  exact key (gT i)

/-- The remainder loop does not run. -/
theorem trips_t2 (i : grid1.Coords) : (k1_t2_loop i).trips = 0 := by
  have key : ∀ n : Fin 16, (Scf.Loop.trips { lb := Scalar.addi 0#32 (Scalar.muli (Scalar.divsi (Scalar.subi (BitVec.ofNat 32 n.val) 0#32) 1#32) 1#32), ub := Scalar.addi 0#32 (Scalar.subi (BitVec.ofNat 32 n.val) 0#32), st := (1#32 : BitVec 32) }) = 0 := by
    decide +kernel
  exact key (gT i)

section

variable (𝒱 : Variants) (c : Dev nD) (bd : Option 𝒱.V) (i : grid1.Coords) (arg3 : Memref sig .tc .smem S6x32x16 .f32) (harg3 : arg3.IsWhole) (arg4 : Memref sig .tc .smem S6x32x2 .f32) (harg4 : arg4.IsWhole) (arg5 : Memref sig .tc .vmem S1x8x256x96 .fp8e4m3) (harg5 : arg5.IsWhole) (arg6 : Memref sig .tc .vmem S1x1x4096x96 .fp8e4m3) (harg6 : arg6.IsWhole) (arg7 : Memref sig .tc .vmem S1x1x96x4096 .fp8e4m3) (harg7 : arg7.IsWhole) (arg8 : Memref sig .tc .vmem S1x8x256 .f32) (harg8 : arg8.IsWhole) (arg9 : Memref sig .tc .vmem S1x1x4096x8 .f32) (harg9 : arg9.IsWhole) (arg10 : Memref sig .tc .vmem S1x1x96x1 .f32) (harg10 : arg10.IsWhole) (arg11 : Memref sig .tc .vmem S1x256x768 .bf16) (harg11 : arg11.IsWhole) (arg12 : Memref sig .tc .vmem S1x1x8x256 .f32) (harg12 : arg12.IsWhole) (arg13 : Memref sig .tc .vmem S8x256 .f32) (harg13 : arg13.IsWhole) (arg14 : Memref sig .tc .vmem S8x256 .f32) (harg14 : arg14.IsWhole) (arg15 : Memref sig .tc .vmem S8x96x256 .f32) (harg15 : arg15.IsWhole)
  (arg0 arg1 arg2 : BitVec 32)
  (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty)
  (G13 : BufTy.Contents (Elt Ideal) arg13.view.ty) (G14 : BufTy.Contents (Elt Ideal) arg14.view.ty)
  (G15 : BufTy.Contents (Elt Ideal) arg15.view.ty) (init : BitVec 32)

/-- The causal scores of the grid point, from what the kernel's operands hold. -/
abbrev argS : Fin 8 → Fin 256 → ℕ → EReal :=
  ms i (arg3.view.read (Elt Ideal) X_arg3) (arg4.view.read (Elt Ideal) X_arg4) (arg5.view.read (Elt Ideal) X_arg5)
    (arg6.view.read (Elt Ideal) X_arg6) (arg8.view.read (Elt Ideal) X_arg8) (arg9.view.read (Elt Ideal) X_arg9)

/-- Before trip `n` the scratch arrays hold the first `256 n` keys. -/
theorem state
    (H0 : Holds (argS i arg3 arg4 arg5 arg6 arg8 arg9 X_arg3 X_arg4 X_arg5 X_arg6 X_arg8 X_arg9) (vl (arg7.view.read (Elt Ideal) X_arg7)) 0
      (arg13.view.read (Elt Ideal) G13) (arg14.view.read (Elt Ideal) G14) (arg15.view.read (Elt Ideal) G15))
    (n : ℕ) (hn : n ≤ (k1_t1_loop i).trips) :
    Holds (argS i arg3 arg4 arg5 arg6 arg8 arg9 X_arg3 X_arg4 X_arg5 X_arg6 X_arg8 X_arg9) (vl (arg7.view.read (Elt Ideal) X_arg7)) (256 * n)
      (arg13.view.read (Elt Ideal) (arg13.view.writes (Elt Ideal) G13 (st_k1_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg0 arg1 arg2 X_arg3 X_arg4 X_arg5 X_arg6 X_arg7 X_arg8 X_arg9 G13 G14 G15 init n).2.1))
      (arg14.view.read (Elt Ideal) (arg14.view.writes (Elt Ideal) G14 (st_k1_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg0 arg1 arg2 X_arg3 X_arg4 X_arg5 X_arg6 X_arg7 X_arg8 X_arg9 G13 G14 G15 init n).2.2.1))
      (arg15.view.read (Elt Ideal) (arg15.view.writes (Elt Ideal) G15 (st_k1_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg0 arg1 arg2 X_arg3 X_arg4 X_arg5 X_arg6 X_arg7 X_arg8 X_arg9 G13 G14 G15 init n).2.2.2)) := by
  induction n with
  | zero => exact H0
  | succ n ih =>
    have H := ih (by omega)
    have hT := trips_t1 i
    have hb : (gT i).val < 16 := (gT i).isLt
    have hw : (tripWord n).toNat < 16 := by rw [tripWord_toNat (by omega)]; omega
    have hwn : (tripWord n).toNat = n := tripWord_toNat (by omega)
    have es := st_k1_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg0 arg1 arg2 X_arg3 X_arg4 X_arg5 X_arg6 X_arg7 X_arg8 X_arg9 G13 G14 G15 init ⟨n, by omega⟩
    rw [es]
    generalize st_k1_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg0 arg1 arg2 X_arg3 X_arg4 X_arg5 X_arg6 X_arg7 X_arg8 X_arg9 G13 G14 G15 init n = st at *
    show Holds _ _ (256 * n + 256) (arg13.view.read (Elt Ideal) (arg13.view.writes (Elt Ideal) G13 (_ ++ st.2.1)))
      (arg14.view.read (Elt Ideal) (arg14.view.writes (Elt Ideal) G14 (_ ++ st.2.2.1)))
      (arg15.view.read (Elt Ideal) (arg15.view.writes (Elt Ideal) G15 (_ ++ st.2.2.2)))
    rw [View.writes_append, View.writes_append, View.writes_append]
    refine H.step (tripScore i arg3 arg4 arg5 arg6 arg8 arg9 X_arg3 X_arg4 X_arg5 X_arg6 X_arg8 X_arg9 ⟨n, by omega⟩ hw)
      (View.ld (arg7.view.read (Elt Ideal) X_arg7) (vRect (tripWord n) hw)) ?_ ?_ ?_ ?_ ?_
    · intro h r q
      have e := sc_lower i (arg3.view.read (Elt Ideal) X_arg3) (arg4.view.read (Elt Ideal) X_arg4) (arg5.view.read (Elt Ideal) X_arg5)
        (arg6.view.read (Elt Ideal) X_arg6) (arg8.view.read (Elt Ideal) X_arg8) (arg9.view.read (Elt Ideal) X_arg9) (tripWord n) hw (by omega) h r q
      rw [hwn] at e
      exact e
    · intro d r
      have e := vt_apply (arg7.view.read (Elt Ideal) X_arg7) (tripWord n) hw d r
      rw [hwn] at e
      exact e
    · intro h q
      refine (congrArg (fun L => arg13.view.read (Elt Ideal) (arg13.view.writes (Elt Ideal) (arg13.view.writes (Elt Ideal) G13 st.2.1) L) (ix2 h q))
        (trip13 𝒱 c bd i arg3 harg3 arg4 harg4 arg5 harg5 arg6 harg6 arg7 harg7 arg8 harg8 arg9 harg9 arg10 harg10 arg11 harg11 arg12 harg12 arg13 harg13 arg14 harg14 arg15 harg15 arg0 arg1 arg2 X_arg3 X_arg4 X_arg5 X_arg6 X_arg7 X_arg8 X_arg9 ⟨n, by omega⟩ st.1 _ _ _ hw)).trans ?_
      exact (read_rows arg13.view _ _ _ h q).trans (if_pos (mem_heads h))
    · intro h q
      refine (congrArg (fun L => arg14.view.read (Elt Ideal) (arg14.view.writes (Elt Ideal) (arg14.view.writes (Elt Ideal) G14 st.2.2.1) L) (ix2 h q))
        (trip14 𝒱 c bd i arg3 harg3 arg4 harg4 arg5 harg5 arg6 harg6 arg7 harg7 arg8 harg8 arg9 harg9 arg10 harg10 arg11 harg11 arg12 harg12 arg13 harg13 arg14 harg14 arg15 harg15 arg0 arg1 arg2 X_arg3 X_arg4 X_arg5 X_arg6 X_arg7 X_arg8 X_arg9 ⟨n, by omega⟩ st.1 _ _ _ hw)).trans ?_
      exact (read_rows arg14.view _ _ _ h q).trans (if_pos (mem_heads h))
    · intro h d q
      refine (congrArg (fun L => arg15.view.read (Elt Ideal) (arg15.view.writes (Elt Ideal) (arg15.view.writes (Elt Ideal) G15 st.2.2.2) L) (ix3 h d q))
        (trip15 𝒱 c bd i arg3 harg3 arg4 harg4 arg5 harg5 arg6 harg6 arg7 harg7 arg8 harg8 arg9 harg9 arg10 harg10 arg11 harg11 arg12 harg12 arg13 harg13 arg14 harg14 arg15 harg15 arg0 arg1 arg2 X_arg3 X_arg4 X_arg5 X_arg6 X_arg7 X_arg8 X_arg9 ⟨n, by omega⟩ st.1 _ _ _ hw)).trans ?_
      exact (read_slabs arg15.view _ _ _ h d q).trans (if_pos (mem_heads h))

end

end Cert.Tile
-- ==== Proof.Diag.lean ====
/- The diagonal tile: after the loop over whole tiles each head folds the masked diagonal tile into its rows. The lists of
   stores of the kernel's run, written uniformly in the head. -/
module

public import proofs.«01_k».proof.Proof.State

@[expose] public section

set_option maxRecDepth 16384

noncomputable section

namespace Cert.Tile

open Cert.KernelIdeal Cert.KernelIdeal.Gen Idealize.ShloMosaic Idealize.ShloMosaic.TcCoe Idealize.SL.Sem

section lists

variable {F : FTy → Type} [FloatOps F] [Named F] {κ : Kind} {sp : Space} (v13 v14 : View sig κ sp S8x256 .f32) (v15 : View sig κ sp S8x96x256 .f32)
  (s : Fin 8 → FVec F S256x256 .f32) (vt : Vec F S1x1x96x256 .fp8e4m3)
  (A13 A14 : List (View.Piece (Elt F) S8x256 .f32)) (A15 : List (View.Piece (Elt F) S8x96x256 .f32))

/-- The stores of the listed heads into the running maxima, each from what its row holds when it runs. -/
def dl13 : List (Fin 8) → List (View.Piece (Elt F) S8x256 .f32)
  | [] => A13
  | h :: L => ⟨row h, mSt (s h) (v13.readCov (dl13 L) (row h).toLoadRect)⟩ :: dl13 L

/-- Likewise into the running weight sums. -/
def dl14 : List (Fin 8) → List (View.Piece (Elt F) S8x256 .f32)
  | [] => A14
  | h :: L => ⟨row h, lSt (s h) (v13.readCov (dl13 v13 s A13 L) (row h).toLoadRect) (v14.readCov (dl14 L) (row h).toLoadRect)⟩ :: dl14 L

/-- Likewise into the running weighted value sums. -/
def dl15 : List (Fin 8) → List (View.Piece (Elt F) S8x96x256 .f32)
  | [] => A15
  | h :: L => ⟨slab h, oSt (s h) (v13.readCov (dl13 v13 s A13 L) (row h).toLoadRect) vt (v15.readCov (dl15 L) (slab h).toLoadRect)⟩ :: dl15 L

end lists

section run

variable {F : FTy → Type} [FloatOps F] [Named F] (c : Dev nD) (i : grid1.Coords) (arg3 : Memref sig .tc .smem S6x32x16 .f32) (harg3 : arg3.IsWhole) (arg4 : Memref sig .tc .smem S6x32x2 .f32) (harg4 : arg4.IsWhole) (arg5 : Memref sig .tc .vmem S1x8x256x96 .fp8e4m3) (harg5 : arg5.IsWhole) (arg6 : Memref sig .tc .vmem S1x1x4096x96 .fp8e4m3) (harg6 : arg6.IsWhole) (arg7 : Memref sig .tc .vmem S1x1x96x4096 .fp8e4m3) (harg7 : arg7.IsWhole) (arg8 : Memref sig .tc .vmem S1x8x256 .f32) (harg8 : arg8.IsWhole) (arg9 : Memref sig .tc .vmem S1x1x4096x8 .f32) (harg9 : arg9.IsWhole) (arg10 : Memref sig .tc .vmem S1x1x96x1 .f32) (harg10 : arg10.IsWhole) (arg11 : Memref sig .tc .vmem S1x256x768 .bf16) (harg11 : arg11.IsWhole) (arg12 : Memref sig .tc .vmem S1x1x8x256 .f32) (harg12 : arg12.IsWhole) (arg13 : Memref sig .tc .vmem S8x256 .f32) (harg13 : arg13.IsWhole) (arg14 : Memref sig .tc .vmem S8x256 .f32) (harg14 : arg14.IsWhole) (arg15 : Memref sig .tc .vmem S8x96x256 .f32) (harg15 : arg15.IsWhole)
  (x0 : Vec F S6x32x16 .f32) (x1 : Vec F S6x32x2 .f32) (x2 : Vec F S1x8x256x96 .fp8e4m3) (x3 : Vec F S1x1x4096x96 .fp8e4m3) (x4 : Vec F S1x1x96x4096 .fp8e4m3) (x5 : Vec F S1x8x256 .f32) (x6 : Vec F S1x1x4096x8 .f32)

theorem diag_lt : (BitVec.ofNat 32 (i 2)).toNat < 16 := by
  have h : (i 2 : ℕ) < 16 := (i 2).isLt
  rw [ofNat_toNat h]; exact h

/-- The masked scores of the diagonal tile. -/
abbrev diagScore (h : Fin 8) : FVec F S256x256 .f32 :=
  masked (sc i (BitVec.ofNat 32 (i 2)) (diag_lt i) (arg3.view.read (Elt F) (harg3.unread x0)) (arg4.view.read (Elt F) (harg4.unread x1))
    (arg5.view.read (Elt F) (harg5.unread x2)) (arg6.view.read (Elt F) (harg6.unread x3)) (arg8.view.read (Elt F) (harg8.unread x5))
    (arg9.view.read (Elt F) (harg9.unread x6)) h)

/-- The diagonal value tile. -/
abbrev diagVal : Vec F S1x1x96x256 .fp8e4m3 :=
  View.ld (arg7.view.read (Elt F) (harg7.unread x4)) (vRect (BitVec.ofNat 32 (i 2)) (diag_lt i))

/-- The stores before the diagonal tile, of the running maxima, weight sums and weighted value sums. -/
abbrev before13 : List (View.Piece (Elt F) S8x256 .f32) := (kernelRun1_A.sl.HS0_1_1 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).tail
abbrev before14 : List (View.Piece (Elt F) S8x256 .f32) := (kernelRun1_A.sl.HS1_1_1 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).tail
abbrev before15 : List (View.Piece (Elt F) S8x96x256 .f32) := (kernelRun1_A.sl.HS2_1_1 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).tail

theorem dmx0 : (kernelRun1_A.sl.HS0_1_1 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) = dl13 arg13.view (diagScore i arg3 harg3 arg4 harg4 arg5 harg5 arg6 harg6 arg8 harg8 arg9 harg9 x0 x1 x2 x3 x5 x6) (before13 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) [0] := by
  rfl

theorem dls0 : (kernelRun1_A.sl.HS1_1_1 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) = dl14 arg13.view arg14.view (diagScore i arg3 harg3 arg4 harg4 arg5 harg5 arg6 harg6 arg8 harg8 arg9 harg9 x0 x1 x2 x3 x5 x6) (before13 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) (before14 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) [0] := by
  rfl

theorem dov0 : (kernelRun1_A.sl.HS2_1_1 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) = dl15 arg13.view arg15.view (diagScore i arg3 harg3 arg4 harg4 arg5 harg5 arg6 harg6 arg8 harg8 arg9 harg9 x0 x1 x2 x3 x5 x6) (diagVal i arg7 harg7 x4) (before13 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) (before15 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) [0] := by
  rfl

theorem dmx1 : (kernelRun1_A.sl.HS0_2 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) = dl13 arg13.view (diagScore i arg3 harg3 arg4 harg4 arg5 harg5 arg6 harg6 arg8 harg8 arg9 harg9 x0 x1 x2 x3 x5 x6) (before13 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) [1, 0] := by
  rfl

theorem dls1 : (kernelRun1_A.sl.HS1_2 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) = dl14 arg13.view arg14.view (diagScore i arg3 harg3 arg4 harg4 arg5 harg5 arg6 harg6 arg8 harg8 arg9 harg9 x0 x1 x2 x3 x5 x6) (before13 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) (before14 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) [1, 0] := by
  rfl

theorem dov1 : (kernelRun1_A.sl.HS2_2 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) = dl15 arg13.view arg15.view (diagScore i arg3 harg3 arg4 harg4 arg5 harg5 arg6 harg6 arg8 harg8 arg9 harg9 x0 x1 x2 x3 x5 x6) (diagVal i arg7 harg7 x4) (before13 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) (before15 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) [1, 0] := by
  rfl

theorem dmx2 : (kernelRun1_A.sl.HS0_3 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) = dl13 arg13.view (diagScore i arg3 harg3 arg4 harg4 arg5 harg5 arg6 harg6 arg8 harg8 arg9 harg9 x0 x1 x2 x3 x5 x6) (before13 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) [2, 1, 0] := by
  rfl

theorem dls2 : (kernelRun1_A.sl.HS1_3 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) = dl14 arg13.view arg14.view (diagScore i arg3 harg3 arg4 harg4 arg5 harg5 arg6 harg6 arg8 harg8 arg9 harg9 x0 x1 x2 x3 x5 x6) (before13 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) (before14 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) [2, 1, 0] := by
  rfl

theorem dov2 : (kernelRun1_A.sl.HS2_3 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) = dl15 arg13.view arg15.view (diagScore i arg3 harg3 arg4 harg4 arg5 harg5 arg6 harg6 arg8 harg8 arg9 harg9 x0 x1 x2 x3 x5 x6) (diagVal i arg7 harg7 x4) (before13 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) (before15 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) [2, 1, 0] := by
  rfl

theorem dmx3 : (kernelRun1_A.sl.HS0_4 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) = dl13 arg13.view (diagScore i arg3 harg3 arg4 harg4 arg5 harg5 arg6 harg6 arg8 harg8 arg9 harg9 x0 x1 x2 x3 x5 x6) (before13 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) [3, 2, 1, 0] := by
  rfl

theorem dls3 : (kernelRun1_A.sl.HS1_4 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) = dl14 arg13.view arg14.view (diagScore i arg3 harg3 arg4 harg4 arg5 harg5 arg6 harg6 arg8 harg8 arg9 harg9 x0 x1 x2 x3 x5 x6) (before13 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) (before14 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) [3, 2, 1, 0] := by
  rfl

theorem dov3 : (kernelRun1_A.sl.HS2_4 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) = dl15 arg13.view arg15.view (diagScore i arg3 harg3 arg4 harg4 arg5 harg5 arg6 harg6 arg8 harg8 arg9 harg9 x0 x1 x2 x3 x5 x6) (diagVal i arg7 harg7 x4) (before13 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) (before15 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) [3, 2, 1, 0] := by
  rfl

theorem dmx4 : (kernelRun1_A.sl.HS0_5 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) = dl13 arg13.view (diagScore i arg3 harg3 arg4 harg4 arg5 harg5 arg6 harg6 arg8 harg8 arg9 harg9 x0 x1 x2 x3 x5 x6) (before13 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) [4, 3, 2, 1, 0] := by
  rfl

theorem dls4 : (kernelRun1_A.sl.HS1_5 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) = dl14 arg13.view arg14.view (diagScore i arg3 harg3 arg4 harg4 arg5 harg5 arg6 harg6 arg8 harg8 arg9 harg9 x0 x1 x2 x3 x5 x6) (before13 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) (before14 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) [4, 3, 2, 1, 0] := by
  rfl

theorem dov4 : (kernelRun1_A.sl.HS2_5 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) = dl15 arg13.view arg15.view (diagScore i arg3 harg3 arg4 harg4 arg5 harg5 arg6 harg6 arg8 harg8 arg9 harg9 x0 x1 x2 x3 x5 x6) (diagVal i arg7 harg7 x4) (before13 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) (before15 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) [4, 3, 2, 1, 0] := by
  rfl

theorem dmx5 : (kernelRun1_A.sl.HS0_6 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) = dl13 arg13.view (diagScore i arg3 harg3 arg4 harg4 arg5 harg5 arg6 harg6 arg8 harg8 arg9 harg9 x0 x1 x2 x3 x5 x6) (before13 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) [5, 4, 3, 2, 1, 0] := by
  rfl

theorem dls5 : (kernelRun1_A.sl.HS1_6 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) = dl14 arg13.view arg14.view (diagScore i arg3 harg3 arg4 harg4 arg5 harg5 arg6 harg6 arg8 harg8 arg9 harg9 x0 x1 x2 x3 x5 x6) (before13 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) (before14 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) [5, 4, 3, 2, 1, 0] := by
  rfl

theorem dov5 : (kernelRun1_A.sl.HS2_6 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) = dl15 arg13.view arg15.view (diagScore i arg3 harg3 arg4 harg4 arg5 harg5 arg6 harg6 arg8 harg8 arg9 harg9 x0 x1 x2 x3 x5 x6) (diagVal i arg7 harg7 x4) (before13 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) (before15 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) [5, 4, 3, 2, 1, 0] := by
  rfl

theorem dmx6 : (kernelRun1_A.sl.HS0_7 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) = dl13 arg13.view (diagScore i arg3 harg3 arg4 harg4 arg5 harg5 arg6 harg6 arg8 harg8 arg9 harg9 x0 x1 x2 x3 x5 x6) (before13 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) [6, 5, 4, 3, 2, 1, 0] := by
  rfl

theorem dls6 : (kernelRun1_A.sl.HS1_7 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) = dl14 arg13.view arg14.view (diagScore i arg3 harg3 arg4 harg4 arg5 harg5 arg6 harg6 arg8 harg8 arg9 harg9 x0 x1 x2 x3 x5 x6) (before13 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) (before14 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) [6, 5, 4, 3, 2, 1, 0] := by
  rfl

theorem dov6 : (kernelRun1_A.sl.HS2_7 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) = dl15 arg13.view arg15.view (diagScore i arg3 harg3 arg4 harg4 arg5 harg5 arg6 harg6 arg8 harg8 arg9 harg9 x0 x1 x2 x3 x5 x6) (diagVal i arg7 harg7 x4) (before13 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) (before15 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) [6, 5, 4, 3, 2, 1, 0] := by
  rfl

theorem dmx7 : (kernelRun1_A.sl.HS0_8 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) = dl13 arg13.view (diagScore i arg3 harg3 arg4 harg4 arg5 harg5 arg6 harg6 arg8 harg8 arg9 harg9 x0 x1 x2 x3 x5 x6) (before13 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) [7, 6, 5, 4, 3, 2, 1, 0] := by
  rfl

theorem dls7 : (kernelRun1_A.sl.HS1_8 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) = dl14 arg13.view arg14.view (diagScore i arg3 harg3 arg4 harg4 arg5 harg5 arg6 harg6 arg8 harg8 arg9 harg9 x0 x1 x2 x3 x5 x6) (before13 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) (before14 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) [7, 6, 5, 4, 3, 2, 1, 0] := by
  rfl

theorem dov7 : (kernelRun1_A.sl.HS2_8 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) = dl15 arg13.view arg15.view (diagScore i arg3 harg3 arg4 harg4 arg5 harg5 arg6 harg6 arg8 harg8 arg9 harg9 x0 x1 x2 x3 x5 x6) (diagVal i arg7 harg7 x4) (before13 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) (before15 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) [7, 6, 5, 4, 3, 2, 1, 0] := by
  rfl

end run

end Cert.Tile
-- ==== Proof.DiagVal.lean ====
/- What the scratch arrays hold after the heads of a list have folded a tile in, when each head reads only its own row. -/
module

public import proofs.«01_k».proof.Proof.Diag

@[expose] public section

set_option maxRecDepth 16384

noncomputable section

namespace Cert.Tile

open Cert.KernelIdeal Cert.KernelIdeal.Gen Idealize.ShloMosaic Idealize.ShloMosaic.TcCoe Idealize.SL.Sem

variable {κ : Kind} {sp : Space} (v13 v14 : View sig κ sp S8x256 .f32) (v15 : View sig κ sp S8x96x256 .f32)
  (s : Fin 8 → FVec Ideal S256x256 .f32) (vt : Vec Ideal S1x1x96x256 .fp8e4m3)
  (A13 A14 : List (View.Piece (Elt Ideal) S8x256 .f32)) (A15 : List (View.Piece (Elt Ideal) S8x96x256 .f32))

/-- The contents a list of stores leaves, over the scratch's arbitrary first contents. -/
abbrev held (v : View sig κ sp S8x256 .f32) (L : List (View.Piece (Elt Ideal) S8x256 .f32)) : Vec Ideal S8x256 .f32 :=
  v.read (Elt Ideal) (v.writes (Elt Ideal) v.junk L)

abbrev held3 (v : View sig κ sp S8x96x256 .f32) (L : List (View.Piece (Elt Ideal) S8x96x256 .f32)) : Vec Ideal S8x96x256 .f32 :=
  v.read (Elt Ideal) (v.writes (Elt Ideal) v.junk L)

theorem row_ext {x y : Vec Ideal S1x256 .f32} (h : ∀ q : Fin 256, x (ix2 0 q) = y (ix2 0 q)) : x = y := by
  funext j
  have e : j = ix2 (0 : Fin 1) (⟨(j 1).val, (j 1).isLt⟩ : Fin 256) := by
    funext a
    fin_cases a
    · exact Subsingleton.elim (α := Fin 1) _ _
    · rfl
  rw [e]; exact h _

theorem slab_ext {x y : Vec Ideal S1x96x256 .f32} (h : ∀ (d : Fin 96) (q : Fin 256), x (ix3 0 d q) = y (ix3 0 d q)) : x = y := by
  funext j
  have e : j = ix3 (0 : Fin 1) (⟨(j 1).val, (j 1).isLt⟩ : Fin 96) (⟨(j 2).val, (j 2).isLt⟩ : Fin 256) := by
    funext a
    fin_cases a
    · exact Subsingleton.elim (α := Fin 1) _ _
    · rfl
    · rfl
  rw [e]; exact h _ _

theorem dl13_read (L : List (Fin 8)) (hL : L.Nodup) (h : Fin 8) (q : Fin 256) :
    held v13 (dl13 v13 s A13 L) (ix2 h q) = if h ∈ L then mSt (F := Ideal) (s h) (ldRow (held v13 A13) h) (ix2 0 q) else held v13 A13 (ix2 h q) := by
  induction L generalizing h q with
  | nil => rfl
  | cons a L ih =>
    obtain ⟨ha, hL'⟩ := List.nodup_cons.mp hL
    by_cases e : h = a
    · subst e
      rw [if_pos (List.mem_cons_self)]
      refine (View.read_writes_cons_hit v13 _ (row h) _ _ (ix2 (0 : Fin 1) q) _ (row_emb h q)).trans ?_
      have hr : ldRow (held v13 (dl13 v13 s A13 L)) h = ldRow (held v13 A13) h :=
        row_ext fun q' => by rw [ld_row, ld_row, ih hL', if_neg ha]
      exact congrArg (fun m => mSt (F := Ideal) (s h) m (ix2 0 q)) hr
    · have hy := not_mem_row e q
      refine (View.read_writes_cons_miss v13 _ ⟨row a, _⟩ _ _ hy).trans ((ih hL' h q).trans ?_)
      simp only [List.mem_cons, e, false_or]

theorem dl13_row (L : List (Fin 8)) (hL : L.Nodup) (h : Fin 8) (ha : h ∉ L) : ldRow (held v13 (dl13 v13 s A13 L)) h = ldRow (held v13 A13) h :=
  row_ext fun q' => by rw [ld_row, ld_row, dl13_read v13 s A13 L hL, if_neg ha]

theorem dl14_read (L : List (Fin 8)) (hL : L.Nodup) (h : Fin 8) (q : Fin 256) :
    held v14 (dl14 v13 v14 s A13 A14 L) (ix2 h q)
      = if h ∈ L then lSt (F := Ideal) (s h) (ldRow (held v13 A13) h) (ldRow (held v14 A14) h) (ix2 0 q) else held v14 A14 (ix2 h q) := by
  induction L generalizing h q with
  | nil => rfl
  | cons a L ih =>
    obtain ⟨ha, hL'⟩ := List.nodup_cons.mp hL
    by_cases e : h = a
    · subst e
      rw [if_pos (List.mem_cons_self)]
      refine (View.read_writes_cons_hit v14 _ (row h) _ _ (ix2 (0 : Fin 1) q) _ (row_emb h q)).trans ?_
      have hr : ldRow (held v14 (dl14 v13 v14 s A13 A14 L)) h = ldRow (held v14 A14) h :=
        row_ext fun q' => by rw [ld_row, ld_row, ih hL', if_neg ha]
      exact congrArg₂ (fun m l => lSt (F := Ideal) (s h) m l (ix2 0 q)) (dl13_row v13 s A13 L hL' h ha) hr
    · have hy := not_mem_row e q
      refine (View.read_writes_cons_miss v14 _ ⟨row a, _⟩ _ _ hy).trans ((ih hL' h q).trans ?_)
      simp only [List.mem_cons, e, false_or]

theorem dl15_read (L : List (Fin 8)) (hL : L.Nodup) (h : Fin 8) (d : Fin 96) (q : Fin 256) :
    held3 v15 (dl15 v13 v15 s vt A13 A15 L) (ix3 h d q)
      = if h ∈ L then oSt (F := Ideal) (s h) (ldRow (held v13 A13) h) vt (ldSlab (held3 v15 A15) h) (ix3 0 d q) else held3 v15 A15 (ix3 h d q) := by
  induction L generalizing h d q with
  | nil => rfl
  | cons a L ih =>
    obtain ⟨ha, hL'⟩ := List.nodup_cons.mp hL
    by_cases e : h = a
    · subst e
      rw [if_pos (List.mem_cons_self)]
      refine (View.read_writes_cons_hit v15 _ (slab h) _ _ (ix3 (0 : Fin 1) d q) _ (slab_emb h d q)).trans ?_
      have hr : ldSlab (held3 v15 (dl15 v13 v15 s vt A13 A15 L)) h = ldSlab (held3 v15 A15) h :=
        slab_ext fun d' q' => by rw [ld_slab, ld_slab, ih hL', if_neg ha]
      exact congrArg₂ (fun m o => oSt (F := Ideal) (s h) m vt o (ix3 0 d q)) (dl13_row v13 s A13 L hL' h ha) hr
    · have hy := not_mem_slab e d q
      refine (View.read_writes_cons_miss v15 _ ⟨slab a, _⟩ _ _ hy).trans ((ih hL' h d q).trans ?_)
      simp only [List.mem_cons, e, false_or]

/-- All eight heads fold one tile in. -/
theorem Holds.diag {S : Fin 8 → Fin 256 → ℕ → EReal} {V : Fin 96 → ℕ → EReal} {N : ℕ}
    (H : Holds S V N (held v13 A13) (held v14 A14) (held3 v15 A15))
    (hs : ∀ h (r q : Fin 256), s h (ix2 r q) = S h q (N + r)) (hv : ∀ d (r : Fin 256), vt (ix4 0 0 d r) = V d (N + r)) :
    Holds S V (N + 256) (held v13 (dl13 v13 s A13 [7, 6, 5, 4, 3, 2, 1, 0])) (held v14 (dl14 v13 v14 s A13 A14 [7, 6, 5, 4, 3, 2, 1, 0]))
      (held3 v15 (dl15 v13 v15 s vt A13 A15 [7, 6, 5, 4, 3, 2, 1, 0])) := by
  have nd : ([7, 6, 5, 4, 3, 2, 1, 0] : List (Fin 8)).Nodup := by decide
  refine H.step s vt hs hv (fun h q => ?_) (fun h q => ?_) (fun h d q => ?_)
  · exact (dl13_read v13 s A13 _ nd h q).trans (if_pos (mem_heads h))
  · exact (dl14_read v13 v14 s A13 A14 _ nd h q).trans (if_pos (mem_heads h))
  · exact (dl15_read v13 v15 s vt A13 A15 _ nd h d q).trans (if_pos (mem_heads h))

end Cert.Tile
-- ==== Proof.Finish.lean ====
/- What the attention kernel stores at the end of a block: each head's weighted value sum divided by its weight sum and
   scaled, and its log-sum-exp. -/
module

public import proofs.«01_k».proof.Proof.DiagVal
public import Idealize.ShloMosaic.Lib.Pointwise

@[expose] public section

set_option maxRecDepth 16384

noncomputable section

namespace Cert.Tile

open Cert.KernelIdeal Cert.KernelIdeal.Gen Idealize.ShloMosaic Idealize.ShloMosaic.TcCoe Idealize.SL.Sem

section run

variable {F : FTy → Type} [FloatOps F] [Named F]

/-- One head's output: the weighted value sum times the reciprocal of the weight sum, times the value scale of its channel. -/
def oFin (l : Vec F S1x256 .f32) (o : Vec F S1x96x256 .f32) (vs : Vec F S1x1x96x1 .f32) : FVec F S256x96 .bf16 :=
  truncf .bf16 (transpose S256x96 [1, 0]
    (mulf (mulf (shapeCast S96x256 o shapeCasts_S1x96x256_S96x256) (broadcastTo S96x256 (reciprocal false l) broadcasts_S1x256_S96x256))
      (broadcastTo S96x256 (shapeCast S96x1 vs shapeCasts_S1x1x96x1_S96x1) broadcasts_S96x1_S96x256)) transposes_S96x256_p1_0_S256x96) bitsLt_bf16_f32

/-- One head's log-sum-exp: the maximum plus the base-2 logarithm of the weight sum, in natural units. -/
def lseFin (l m : Vec F S1x256 .f32) : FVec F S1x1x1x256 .f32 :=
  shapeCast S1x1x1x256 (mulf (addf m (mulf (log l) (broadcast S1x256 (Named.named κ "log2e" 0x3FB8AA3B#32))))
    (broadcast S1x256 (Named.named κ "ln2" 0x3F317218#32))) shapeCasts_S1x256_S1x1x1x256

/-- Head `h`'s row of the log-sum-exp block. -/
def lseRow (h : Fin 8) : Rect S1x1x8x256 :=
  Rect.unit ![0, 0, h, 0] S1x1x1x256.size (by
    intro a; have := h.2; fin_cases a <;> simp [S1x1x1x256, S1x1x8x256] <;> omega)

/-- What head `h` stores as its row of the log-sum-exp block. -/
def piece9 (l m : Vec F S8x256 .f32) (h : Fin 8) : View.Piece (Elt F) S1x1x8x256 .f32 :=
  ⟨lseRow h, lseFin (View.ld l (row h)) (View.ld m (row h))⟩

/-- What head `h` contributes to the output block. -/
abbrev oHead (l : Vec F S8x256 .f32) (o : Vec F S8x96x256 .f32) (vs : Vec F S1x1x96x1 .f32) (h : Fin 8) : FVec F S256x96 .bf16 :=
  oFin (View.ld l (row h)) (View.ld o (slab h)) vs

/-- The whole output block. -/
def oBlock (l : Vec F S8x256 .f32) (o : Vec F S8x96x256 .f32) (vs : Vec F S1x1x96x1 .f32) : FVec F S1x256x768 .bf16 :=
  k1_pay2 (oHead l o vs 0) (oHead l o vs 1) (oHead l o vs 2) (oHead l o vs 3) (oHead l o vs 4) (oHead l o vs 5) (oHead l o vs 6) (oHead l o vs 7)

variable (c : Dev nD) (i : grid1.Coords) (arg3 : Memref sig .tc .smem S6x32x16 .f32) (harg3 : arg3.IsWhole) (arg4 : Memref sig .tc .smem S6x32x2 .f32) (harg4 : arg4.IsWhole) (arg5 : Memref sig .tc .vmem S1x8x256x96 .fp8e4m3) (harg5 : arg5.IsWhole) (arg6 : Memref sig .tc .vmem S1x1x4096x96 .fp8e4m3) (harg6 : arg6.IsWhole) (arg7 : Memref sig .tc .vmem S1x1x96x4096 .fp8e4m3) (harg7 : arg7.IsWhole) (arg8 : Memref sig .tc .vmem S1x8x256 .f32) (harg8 : arg8.IsWhole) (arg9 : Memref sig .tc .vmem S1x1x4096x8 .f32) (harg9 : arg9.IsWhole) (arg10 : Memref sig .tc .vmem S1x1x96x1 .f32) (harg10 : arg10.IsWhole) (arg11 : Memref sig .tc .vmem S1x256x768 .bf16) (harg11 : arg11.IsWhole) (arg12 : Memref sig .tc .vmem S1x1x8x256 .f32) (harg12 : arg12.IsWhole) (arg13 : Memref sig .tc .vmem S8x256 .f32) (harg13 : arg13.IsWhole) (arg14 : Memref sig .tc .vmem S8x256 .f32) (harg14 : arg14.IsWhole) (arg15 : Memref sig .tc .vmem S8x96x256 .f32) (harg15 : arg15.IsWhole)
  (x0 : Vec F S6x32x16 .f32) (x1 : Vec F S6x32x2 .f32) (x2 : Vec F S1x8x256x96 .fp8e4m3) (x3 : Vec F S1x1x4096x96 .fp8e4m3) (x4 : Vec F S1x1x96x4096 .fp8e4m3) (x5 : Vec F S1x8x256 .f32) (x6 : Vec F S1x1x4096x8 .f32) (x7 : Vec F S1x1x96x1 .f32)

/-- The contents of the scratch arrays after the diagonal tile. -/
abbrev end13 : Vec F S8x256 .f32 := arg13.view.read (Elt F) (arg13.view.writes (Elt F) arg13.view.junk (kernelRun1_A.sl.HS0_8 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6))
abbrev end14 : Vec F S8x256 .f32 := arg14.view.read (Elt F) (arg14.view.writes (Elt F) arg14.view.junk (kernelRun1_A.sl.HS1_8 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6))
abbrev end15 : Vec F S8x96x256 .f32 := arg15.view.read (Elt F) (arg15.view.writes (Elt F) arg15.view.junk (kernelRun1_A.sl.HS2_8 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6))

/-- The one store of the output block. -/
theorem run8 : (kernelRun1_A (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).1
    = [⟨Rect.unit ![0, 0, 0] ![1, 256, 768] inb_S1x256x768_S1x256x768_0_0_0,
        oBlock (end14 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) (end15 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) (View.readAt (Elt F) arg10.view (Rect.unit ![0, 0, 0, 0] S1x1x96x1.size inb_S1x1x96x1_S1x1x96x1_0_0_0_0).toLoadRect (harg10.unread x7))⟩] := by
  unfold kernelRun1_A
  rfl

/-- The eight stores of the log-sum-exp block, last first. -/
theorem run9 : (kernelRun1_A (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.1
    = [7, 6, 5, 4, 3, 2, 1, 0].map (piece9 (end14 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) (end13 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6)) := by
  unfold kernelRun1_A
  rfl

end run

/-- The output of one head at query `q` and channel `d`. -/
theorem oFin_apply (l : Vec Ideal S1x256 .f32) (o : Vec Ideal S1x96x256 .f32) (vs : Vec Ideal S1x1x96x1 .f32) (q : Fin 256) (d : Fin 96) :
    oFin (F := Ideal) l o vs (ix2 q d) = o (ix3 0 d q) * Ideal.div 1 (l (ix2 0 q)) * vs (ix4 0 0 d 0) := by
  unfold oFin
  pointwise

theorem lseFin_apply (l m : Vec Ideal S1x256 .f32) (q : Fin 256) :
    lseFin (F := Ideal) l m (ix4 0 0 0 q) = (m (ix2 0 q) + Ideal.log (l (ix2 0 q)) * (Online.L : EReal)) * ((Real.log 2 : ℝ) : EReal) := by
  unfold lseFin
  rw [show Named.named (F := Ideal) κ "log2e" (φ := .f32) 0x3FB8AA3B#32 = ((Online.L : ℝ) : EReal) from IdealRules.named_const.ideal_named_scalar _ _ _ _ rfl,
    show Named.named (F := Ideal) κ "ln2" (φ := .f32) 0x3F317218#32 = ((Real.log 2 : ℝ) : EReal) from IdealRules.named_const.ideal_named_scalar _ _ _ _ rfl]
  pointwise

/-- Eight heads' outputs side by side. -/
theorem k1_pay2_apply (f : Fin 8 → FVec Ideal S256x96 .bf16) (q : Fin 256) (h : Fin 8) (d : Fin 96) :
    k1_pay2 (F := Ideal) (f 0) (f 1) (f 2) (f 3) (f 4) (f 5) (f 6) (f 7) (ix3 0 q (⟨96 * h.val + d.val, by omega⟩ : Fin 768)) = f h (ix2 q d) := by
  have key : ∀ (a : Fin 8) (x : Fin 96), 96 * a.val + x.val = 96 * h.val + d.val → f a (ix2 q x) = f h (ix2 q d) := by
    intro a x e
    have ha : a = h := Fin.ext (by omega)
    subst ha
    have hx : x = d := Fin.ext (by omega)
    rw [hx]
  unfold k1_pay2
  pointwise
  split_ifs <;> (apply key; simp <;> omega)

end Cert.Tile
-- ==== Proof.Block.lean ====
/- What the attention kernel leaves in its two output blocks at a grid point: for each head and query the weighted value sum
   over the weight sum, and the log-sum-exp, of the causal scores of the keys up to the end of the query's tile. -/
module

public import proofs.«01_k».proof.Proof.Finish

@[expose] public section

set_option maxRecDepth 16384

noncomputable section

namespace Cert.Tile

open Cert.KernelIdeal Cert.KernelIdeal.Gen Idealize.ShloMosaic Idealize.ShloMosaic.TcCoe Idealize.SL.Sem

theorem whole_emb2 (h : Fin 8) (q : Fin 256) :
    (Rect.unit ![0, 0] S8x256.size inb_S8x256_S8x256_0_0).emb (ix2 h q) = (ix2 h q : S8x256.Idx) := by
  apply Rect.emb_eq_of_coords
  intro a; fin_cases a <;> simp [Rect.unit]

theorem whole_emb3 (h : Fin 8) (d : Fin 96) (q : Fin 256) :
    (Rect.unit ![0, 0, 0] S8x96x256.size inb_S8x96x256_S8x96x256_0_0_0).emb (ix3 h d q) = (ix3 h d q : S8x96x256.Idx) := by
  apply Rect.emb_eq_of_coords
  intro a; fin_cases a <;> simp [Rect.unit]

theorem held_whole {κ : Kind} {sp : Space} (v : View sig κ sp S8x256 .f32) (w : Vec Ideal S8x256 .f32) (h : Fin 8) (q : Fin 256) :
    held v [⟨Rect.unit ![0, 0] S8x256.size inb_S8x256_S8x256_0_0, w⟩] (ix2 h q) = w (ix2 h q) :=
  View.read_writes_cons_hit v v.junk (Rect.unit ![0, 0] S8x256.size inb_S8x256_S8x256_0_0) w [] (ix2 h q) (ix2 h q) (whole_emb2 h q)

theorem held_whole3 {κ : Kind} {sp : Space} (v : View sig κ sp S8x96x256 .f32) (w : Vec Ideal S8x96x256 .f32) (h : Fin 8) (d : Fin 96) (q : Fin 256) :
    held3 v [⟨Rect.unit ![0, 0, 0] S8x96x256.size inb_S8x96x256_S8x96x256_0_0_0, w⟩] (ix3 h d q) = w (ix3 h d q) :=
  View.read_writes_cons_hit v v.junk (Rect.unit ![0, 0, 0] S8x96x256.size inb_S8x96x256_S8x96x256_0_0_0) w [] (ix3 h d q) (ix3 h d q) (whole_emb3 h d q)

theorem init13 (h : Fin 8) (q : Fin 256) : k1_pay193 (F := Ideal) (ix2 h q) = ⊥ := by
  unfold k1_pay193
  rw [show Named.named (F := Ideal) κ "masked" (φ := .f32) 0xF149F2CA#32 = ⊥ from IdealRules.named_const.ideal_named_scalar _ _ _ _ rfl]
  pointwise

theorem init14 (h : Fin 8) (q : Fin 256) : k1_pay194 (F := Ideal) (ix2 h q) = 0 := by
  unfold k1_pay194
  pointwise

theorem init15 (h : Fin 8) (d : Fin 96) (q : Fin 256) : k1_pay195 (F := Ideal) (ix3 h d q) = 0 := by
  unfold k1_pay195
  pointwise

section run

variable (c : Dev nD) (i : grid1.Coords) (arg3 : Memref sig .tc .smem S6x32x16 .f32) (harg3 : arg3.IsWhole) (arg4 : Memref sig .tc .smem S6x32x2 .f32) (harg4 : arg4.IsWhole) (arg5 : Memref sig .tc .vmem S1x8x256x96 .fp8e4m3) (harg5 : arg5.IsWhole) (arg6 : Memref sig .tc .vmem S1x1x4096x96 .fp8e4m3) (harg6 : arg6.IsWhole) (arg7 : Memref sig .tc .vmem S1x1x96x4096 .fp8e4m3) (harg7 : arg7.IsWhole) (arg8 : Memref sig .tc .vmem S1x8x256 .f32) (harg8 : arg8.IsWhole) (arg9 : Memref sig .tc .vmem S1x1x4096x8 .f32) (harg9 : arg9.IsWhole) (arg10 : Memref sig .tc .vmem S1x1x96x1 .f32) (harg10 : arg10.IsWhole) (arg11 : Memref sig .tc .vmem S1x256x768 .bf16) (harg11 : arg11.IsWhole) (arg12 : Memref sig .tc .vmem S1x1x8x256 .f32) (harg12 : arg12.IsWhole) (arg13 : Memref sig .tc .vmem S8x256 .f32) (harg13 : arg13.IsWhole) (arg14 : Memref sig .tc .vmem S8x256 .f32) (harg14 : arg14.IsWhole) (arg15 : Memref sig .tc .vmem S8x96x256 .f32) (harg15 : arg15.IsWhole)
  (x0 : Vec Ideal S6x32x16 .f32) (x1 : Vec Ideal S6x32x2 .f32) (x2 : Vec Ideal S1x8x256x96 .fp8e4m3) (x3 : Vec Ideal S1x1x4096x96 .fp8e4m3) (x4 : Vec Ideal S1x1x96x4096 .fp8e4m3) (x5 : Vec Ideal S1x8x256 .f32) (x6 : Vec Ideal S1x1x4096x8 .f32) (x7 : Vec Ideal S1x1x96x1 .f32)

/-- Before the first trip the scratch arrays hold no key. -/
theorem holds_init (S : Fin 8 → Fin 256 → ℕ → EReal) (V : Fin 96 → ℕ → EReal) :
    Holds S V 0 (held arg13.view kernelRun1_A.sl.HS0_1) (held arg14.view kernelRun1_A.sl.HS1_1) (held3 arg15.view kernelRun1_A.sl.HS2_1) := by
  refine ⟨fun h q => ?_, fun h q => ?_, fun h d q => ?_⟩
  · rw [Online.mx_zero]
    exact (held_whole arg13.view (k1_pay193 (F := Ideal)) h q).trans (init13 h q)
  · rw [Online.ls_zero]
    exact (held_whole arg14.view (k1_pay194 (F := Ideal)) h q).trans (init14 h q)
  · rw [Online.ov_zero]
    exact (held_whole3 arg15.view (k1_pay195 (F := Ideal)) h d q).trans (init15 h d q)

theorem before13_eq : before13 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 = (st_k1_t1 (F := Ideal) Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 0)) (BitVec.ofNat 32 (i 1)) (BitVec.ofNat 32 (i 2)) (harg3.unread x0) (harg4.unread x1) (harg5.unread x2) (harg6.unread x3) (harg7.unread x4) (harg8.unread x5) (harg9.unread x6) (arg13.view.writes (Elt Ideal) arg13.view.junk kernelRun1_A.sl.HS0_1) (arg14.view.writes (Elt Ideal) arg14.view.junk kernelRun1_A.sl.HS1_1) (arg15.view.writes (Elt Ideal) arg15.view.junk kernelRun1_A.sl.HS2_1) (0#32) (k1_t1_loop i).trips).2.1 ++ kernelRun1_A.sl.HS0_1 := by
  unfold before13 kernelRun1_A.sl.HS0_1_1
  rw [List.tail_cons, show Scf.trips (k1_t2_loop i).lb (k1_t2_loop i).ub (k1_t2_loop i).st = 0 from trips_t2 i]
  rfl

theorem before14_eq : before14 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 = (st_k1_t1 (F := Ideal) Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 0)) (BitVec.ofNat 32 (i 1)) (BitVec.ofNat 32 (i 2)) (harg3.unread x0) (harg4.unread x1) (harg5.unread x2) (harg6.unread x3) (harg7.unread x4) (harg8.unread x5) (harg9.unread x6) (arg13.view.writes (Elt Ideal) arg13.view.junk kernelRun1_A.sl.HS0_1) (arg14.view.writes (Elt Ideal) arg14.view.junk kernelRun1_A.sl.HS1_1) (arg15.view.writes (Elt Ideal) arg15.view.junk kernelRun1_A.sl.HS2_1) (0#32) (k1_t1_loop i).trips).2.2.1 ++ kernelRun1_A.sl.HS1_1 := by
  unfold before14 kernelRun1_A.sl.HS1_1_1
  rw [List.tail_cons, show Scf.trips (k1_t2_loop i).lb (k1_t2_loop i).ub (k1_t2_loop i).st = 0 from trips_t2 i]
  rfl

theorem before15_eq : before15 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 = (st_k1_t1 (F := Ideal) Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 0)) (BitVec.ofNat 32 (i 1)) (BitVec.ofNat 32 (i 2)) (harg3.unread x0) (harg4.unread x1) (harg5.unread x2) (harg6.unread x3) (harg7.unread x4) (harg8.unread x5) (harg9.unread x6) (arg13.view.writes (Elt Ideal) arg13.view.junk kernelRun1_A.sl.HS0_1) (arg14.view.writes (Elt Ideal) arg14.view.junk kernelRun1_A.sl.HS1_1) (arg15.view.writes (Elt Ideal) arg15.view.junk kernelRun1_A.sl.HS2_1) (0#32) (k1_t1_loop i).trips).2.2.2 ++ kernelRun1_A.sl.HS2_1 := by
  unfold before15 kernelRun1_A.sl.HS2_1_1
  rw [List.tail_cons, show Scf.trips (k1_t2_loop i).lb (k1_t2_loop i).ub (k1_t2_loop i).st = 0 from trips_t2 i]
  rfl

/-- Before the diagonal tile the scratch arrays hold the tiles before it. -/
theorem holds_before : Holds (ms i x0 x1 x2 x3 x5 x6) (vl x4) (256 * (gT i).val)
    (held arg13.view (before13 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6)) (held arg14.view (before14 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6)) (held3 arg15.view (before15 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6)) := by
  have H := state Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 0)) (BitVec.ofNat 32 (i 1)) (BitVec.ofNat 32 (i 2)) (harg3.unread x0) (harg4.unread x1) (harg5.unread x2) (harg6.unread x3) (harg7.unread x4) (harg8.unread x5) (harg9.unread x6)
    (arg13.view.writes (Elt Ideal) arg13.view.junk kernelRun1_A.sl.HS0_1) (arg14.view.writes (Elt Ideal) arg14.view.junk kernelRun1_A.sl.HS1_1) (arg15.view.writes (Elt Ideal) arg15.view.junk kernelRun1_A.sl.HS2_1) (0#32) (holds_init arg13 arg14 arg15 _ _) _ (le_refl _)
  rw [trips_t1] at H
  rw [before13_eq, before14_eq, before15_eq]
  unfold held held3
  rw [View.writes_append, View.writes_append, View.writes_append, trips_t1]
  unfold argS at H
  rw [harg3.read_unread, harg4.read_unread, harg5.read_unread, harg6.read_unread, harg7.read_unread, harg8.read_unread, harg9.read_unread] at H
  exact H

/-- After the diagonal tile the scratch arrays hold all the keys up to its end. -/
theorem holds_end : Holds (ms i x0 x1 x2 x3 x5 x6) (vl x4) (256 * (gT i).val + 256)
    (end13 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) (end14 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) (end15 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) := by
  have hd := diag_lt i
  have hT : (BitVec.ofNat 32 (i 2)).toNat = (gT i).val := ofNat_toNat (gT i).isLt
  have H := (holds_before c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).diag arg13.view arg14.view arg15.view (diagScore i arg3 harg3 arg4 harg4 arg5 harg5 arg6 harg6 arg8 harg8 arg9 harg9 x0 x1 x2 x3 x5 x6) (diagVal i arg7 harg7 x4) _ _ _
    (fun h r q => by
      have e := sc_diag i x0 x1 x2 x3 x5 x6 (BitVec.ofNat 32 (i 2)) hd hT h r q
      rw [hT] at e
      unfold diagScore
      rw [harg3.read_unread, harg4.read_unread, harg5.read_unread, harg6.read_unread, harg8.read_unread, harg9.read_unread]
      exact e)
    (fun d r => by
      have e := vt_apply x4 (BitVec.ofNat 32 (i 2)) hd d r
      rw [hT] at e
      unfold diagVal
      rw [harg7.read_unread]
      exact e)
  unfold end13 end14 end15
  rw [dmx7, dls7, dov7]
  exact H

/-- The output block: the weighted value sum over the weight sum, times the value scale. -/
theorem out8_apply (h : Fin 8) (q : Fin 256) (d : Fin 96) :
    out1_A_8 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix3 0 q (⟨96 * h.val + d.val, by omega⟩ : Fin 768))
      = Online.ov ((ms i x0 x1 x2 x3 x5 x6) h q) (vl x4 d) (256 * (gT i).val + 256)
        * Ideal.div 1 (Online.ls ((ms i x0 x1 x2 x3 x5 x6) h q) (256 * (gT i).val + 256)) * x7 (ix4 0 0 d 0) := by
  have H := holds_end c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6
  unfold out1_A_8
  rw [run8]
  have e0 : (Rect.unit (s := S1x256x768) ![0, 0, 0] ![1, 256, 768] inb_S1x256x768_S1x256x768_0_0_0).emb (ix3 (0 : Fin 1) q (⟨96 * h.val + d.val, by omega⟩ : Fin 768))
      = ix3 0 q (⟨96 * h.val + d.val, by omega⟩ : Fin 768) := by
    apply Rect.emb_eq_of_coords
    intro a; fin_cases a <;> simp [Rect.unit]
  refine (View.read_writes_cons_hit VO1_8 _ _ _ _ (ix3 (0 : Fin 1) q (⟨96 * h.val + d.val, by omega⟩ : Fin 768)) _ e0).trans ?_
  refine (k1_pay2_apply (oHead _ _ _) q h d).trans ?_
  refine (oFin_apply _ _ _ q d).trans ?_
  congr 1
  · congr 1
    · exact (ld_slab _ h d q).trans (H.o h d q)
    · exact congrArg (Ideal.div 1) ((ld_row _ h q).trans (H.l h q))
  · show arg10.view.read (Elt Ideal) (harg10.unread x7) _ = _
    rw [harg10.read_unread]
    refine congrArg x7 ?_
    apply Rect.emb_eq_of_coords (Rect.unit (s := S1x1x96x1) ![0, 0, 0, 0] S1x1x96x1.size inb_S1x1x96x1_S1x1x96x1_0_0_0_0)
    intro a; fin_cases a <;> simp [Rect.unit]

theorem lseRow_emb (h : Fin 8) (q : Fin 256) : (lseRow h).emb (ix4 (0 : Fin 1) (0 : Fin 1) (0 : Fin 1) q) = ix4 0 0 h q := by
  apply (lseRow h).emb_eq_of_coords
  intro a; fin_cases a <;> simp [lseRow, Rect.unit]

theorem read_lse {κ : Kind} {sp : Space} (v : View sig κ sp S1x1x8x256 .f32) (f : v.ty.Contents (Elt Ideal)) (w : ∀ h : Fin 8, (lseRow h).shape.Idx → Elt Ideal .f32)
    (L : List (Fin 8)) (h : Fin 8) (q : Fin 256) (hL : h ∈ L) :
    v.read (Elt Ideal) (v.writes (Elt Ideal) f (L.map fun h => (⟨lseRow h, w h⟩ : View.Piece (Elt Ideal) S1x1x8x256 .f32))) (ix4 0 0 h q)
      = w h (ix4 (0 : Fin 1) (0 : Fin 1) (0 : Fin 1) q) := by
  induction L with
  | nil => cases hL
  | cons a L ih =>
    rw [List.map_cons]
    by_cases e : h = a
    · subst e
      exact View.read_writes_cons_hit v f (lseRow h) (w h) _ (ix4 (0 : Fin 1) (0 : Fin 1) (0 : Fin 1) q) _ (lseRow_emb h q)
    · have hy : (ix4 0 0 h q : S1x1x8x256.Idx) ∉ (lseRow a).set := by
        apply (lseRow a).not_mem_set_of_axis (ix4 0 0 h q) 2 a 1 rfl rfl rfl
        have : h.val ≠ a.val := fun e' => e (Fin.ext e')
        show h.val < a.val ∨ a.val + 1 ≤ h.val
        omega
      exact (View.read_writes_cons_miss v f ⟨lseRow a, w a⟩ _ _ hy).trans (ih ((List.mem_cons.mp hL).resolve_left e))

/-- The log-sum-exp block. -/
theorem out9_apply (h : Fin 8) (q : Fin 256) :
    out1_A_9 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix4 0 0 h q)
      = (Online.mx ((ms i x0 x1 x2 x3 x5 x6) h q) (256 * (gT i).val + 256)
        + Ideal.log (Online.ls ((ms i x0 x1 x2 x3 x5 x6) h q) (256 * (gT i).val + 256)) * (Online.L : EReal)) * ((Real.log 2 : ℝ) : EReal) := by
  have H := holds_end c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6
  unfold out1_A_9
  rw [run9]
  refine (read_lse VO1_9 _ _ _ h q (mem_heads h)).trans ?_
  refine (lseFin_apply _ _ q).trans ?_
  congr 2
  · exact (ld_row _ h q).trans (H.m h q)
  · exact congrArg (fun l => Ideal.log l * (Online.L : EReal)) ((ld_row _ h q).trans (H.l h q))

end run

end Cert.Tile
-- ==== Proof.Arrays.lean ====
/- What the attention kernel leaves in its two output arrays: at every query of every head, the weighted value sum over the
   weight sum, and the log-sum-exp, of the causal base-2 scores read off the kernel's whole input arrays. -/
module

public import proofs.«01_k».proof.Proof.Block
public import Idealize.ShloMosaic.Lib.Pipeline.Covers

@[expose] public section

set_option maxRecDepth 16384

noncomputable section

namespace Cert.Tile

open Cert.KernelIdeal Cert.KernelIdeal.Gen Idealize.ShloMosaic Idealize.ShloMosaic.TcCoe Idealize.SL.Sem

section

variable (A0 : Vec Ideal S6x32x16 .f32) (A1 : Vec Ideal S6x32x2 .f32)
  (A2 : Vec Ideal S6x16x4096x96 .fp8e4m3) (A3 : Vec Ideal S6x2x4096x96 .fp8e4m3) (A4 : Vec Ideal S6x2x96x4096 .fp8e4m3)
  (A5 : Vec Ideal S6x16x4096 .f32) (A6 : Vec Ideal S6x2x4096x8 .f32) (A7 : Vec Ideal S6x2x96x1 .f32)

/-- The base-2 score of query `n` with key `j`, for batch `b` and head `H`, over the whole arrays. -/
def gs (b : Fin 6) (H : Fin 16) (n j : ℕ) : EReal :=
  (∑ d : Fin 96, A3 (ix4 b (Fin.ofNat 2 (H.val / 8)) (Fin.ofNat 4096 j) d) * A2 (ix4 b H (Fin.ofNat 4096 n) d))
      * (A0 (ix3 b (Fin.ofNat 32 (n / 128)) H) * A1 (ix3 b (Fin.ofNat 32 (j / 128)) (Fin.ofNat 2 (H.val / 8))) * κs)
    + (A5 (ix3 b H (Fin.ofNat 4096 n)) - A6 (ix4 b (Fin.ofNat 2 (H.val / 8)) (Fin.ofNat 4096 j) (Fin.ofNat 8 (H.val % 8))))

/-- The causal base-2 score: `⊥` for keys after the query. -/
def cs (b : Fin 6) (H : Fin 16) (n j : ℕ) : EReal := if j ≤ n then gs A0 A1 A2 A3 A5 A6 b H n j else ⊥

/-- The value array's entry of key `j` at feature `d` of the head's group. -/
def gv (b : Fin 6) (H : Fin 16) (d : Fin 96) (j : ℕ) : EReal := A4 (ix4 b (Fin.ofNat 2 (H.val / 8)) d (Fin.ofNat 4096 j))

end

theorem toNat_ofNat_lt {n : ℕ} (h : n < 4096) : (BitVec.ofNat 32 n).toNat = n := by
  rw [BitVec.toNat_ofNat]; omega

section index

variable (i : grid1.Coords)

theorem tr0 : cc1_transform_0 i = ![0, 0, 0] := rfl
theorem tr1 : cc1_transform_1 i = ![0, 0, 0] := rfl

theorem c0_lt : (i 0).val < 4096 := lt_of_lt_of_le (i 0).isLt (by decide)
theorem c1_lt : (i 1).val < 4096 := lt_of_lt_of_le (i 1).isLt (by decide)
theorem c2_lt : (i 2).val < 4096 := lt_of_lt_of_le (i 2).isLt (by decide)

theorem tr2 : cc1_transform_2 i = ![(gB i).val, (gG i).val, (gT i).val, 0] := by
  unfold cc1_transform_2
  simp only [toNat_ofNat_lt (c0_lt i), toNat_ofNat_lt (c1_lt i), toNat_ofNat_lt (c2_lt i)]; rfl
theorem tr3 : cc1_transform_3 i = ![(gB i).val, (gG i).val, 0, 0] := by
  unfold cc1_transform_3
  simp only [toNat_ofNat_lt (c0_lt i), toNat_ofNat_lt (c1_lt i)]; rfl
theorem tr4 : cc1_transform_4 i = ![(gB i).val, (gG i).val, 0, 0] := by
  unfold cc1_transform_4
  simp only [toNat_ofNat_lt (c0_lt i), toNat_ofNat_lt (c1_lt i)]; rfl
theorem tr5 : cc1_transform_5 i = ![(gB i).val, (gG i).val, (gT i).val] := by
  unfold cc1_transform_5
  simp only [toNat_ofNat_lt (c0_lt i), toNat_ofNat_lt (c1_lt i), toNat_ofNat_lt (c2_lt i)]; rfl
theorem tr6 : cc1_transform_6 i = ![(gB i).val, (gG i).val, 0, 0] := by
  unfold cc1_transform_6
  simp only [toNat_ofNat_lt (c0_lt i), toNat_ofNat_lt (c1_lt i)]; rfl
theorem tr7 : cc1_transform_7 i = ![(gB i).val, (gG i).val, 0, 0] := by
  unfold cc1_transform_7
  simp only [toNat_ofNat_lt (c0_lt i), toNat_ofNat_lt (c1_lt i)]; rfl
theorem tr8 : cc1_transform_8 i = ![(gB i).val, (gT i).val, (gG i).val] := by
  unfold cc1_transform_8
  simp only [toNat_ofNat_lt (c0_lt i), toNat_ofNat_lt (c1_lt i), toNat_ofNat_lt (c2_lt i)]; rfl
theorem tr9 : cc1_transform_9 i = ![(gB i).val, (gG i).val, 0, (gT i).val] := by
  unfold cc1_transform_9
  simp only [toNat_ofNat_lt (c0_lt i), toNat_ofNat_lt (c1_lt i), toNat_ofNat_lt (c2_lt i)]; rfl

end index

section region

variable (V : (c : Dev nD) → (b : Ref sig .tc) → Buf (Elt Ideal) ((c : Thread nD τ).loc b)) (c : Dev nD) (t : Fin cfg1.N)

theorem ix_0 (t : Fin cfg1.N) : win1_0.index t = ![0, 0, 0] := tr0 (grid1.coords t)
theorem ix_1 (t : Fin cfg1.N) : win1_1.index t = ![0, 0, 0] := tr1 (grid1.coords t)
theorem ix_2 (t : Fin cfg1.N) : win1_2.index t = ![(gB (grid1.coords t)).val, (gG (grid1.coords t)).val, (gT (grid1.coords t)).val, 0] := tr2 _
theorem ix_3 (t : Fin cfg1.N) : win1_3.index t = ![(gB (grid1.coords t)).val, (gG (grid1.coords t)).val, 0, 0] := tr3 _
theorem ix_4 (t : Fin cfg1.N) : win1_4.index t = ![(gB (grid1.coords t)).val, (gG (grid1.coords t)).val, 0, 0] := tr4 _
theorem ix_5 (t : Fin cfg1.N) : win1_5.index t = ![(gB (grid1.coords t)).val, (gG (grid1.coords t)).val, (gT (grid1.coords t)).val] := tr5 _
theorem ix_6 (t : Fin cfg1.N) : win1_6.index t = ![(gB (grid1.coords t)).val, (gG (grid1.coords t)).val, 0, 0] := tr6 _
theorem ix_7 (t : Fin cfg1.N) : win1_7.index t = ![(gB (grid1.coords t)).val, (gG (grid1.coords t)).val, 0, 0] := tr7 _
theorem ix_8 (t : Fin cfg1.N) : win1_8.index t = ![(gB (grid1.coords t)).val, (gT (grid1.coords t)).val, (gG (grid1.coords t)).val] := tr8 _
theorem ix_9 (t : Fin cfg1.N) : win1_9.index t = ![(gB (grid1.coords t)).val, (gG (grid1.coords t)).val, 0, (gT (grid1.coords t)).val] := tr9 _

theorem in0 (x : S6x32x16.Idx) : iblk1 V c 0 t x = V c main_arg1 x := by
  blk_simp [iblk1]
  blk_ext [ix_0]
theorem in1 (x : S6x32x2.Idx) : iblk1 V c 1 t x = V c main_arg3 x := by
  blk_simp [iblk1]
  blk_ext [ix_1]
theorem in2 (h : Fin 8) (q : Fin 256) (d : Fin 96) :
    iblk1 V c 2 t (ix4 (0 : Fin 1) h q d)
      = V c main_v6 (ix4 (gB (grid1.coords t)) (Fin.ofNat 16 (8 * (gG (grid1.coords t)).val + h.val)) (Fin.ofNat 4096 (256 * (gT (grid1.coords t)).val + q.val)) d) := by
  have hg := (gG (grid1.coords t)).isLt
  have ht := (gT (grid1.coords t)).isLt
  blk_simp [iblk1]
  blk_ext [ix_2]
  all_goals (simp only [Fin.ofNat]; omega)

theorem in3 (j : Fin 4096) (d : Fin 96) :
    iblk1 V c 3 t (ix4 (0 : Fin 1) (0 : Fin 1) j d)
      = V c main_v7 (ix4 (gB (grid1.coords t)) (gG (grid1.coords t)) j d) := by
  have hg := (gG (grid1.coords t)).isLt
  have ht := (gT (grid1.coords t)).isLt
  blk_simp [iblk1]
  blk_ext [ix_3]

theorem in4 (d : Fin 96) (j : Fin 4096) :
    iblk1 V c 4 t (ix4 (0 : Fin 1) (0 : Fin 1) d j)
      = V c main_v8 (ix4 (gB (grid1.coords t)) (gG (grid1.coords t)) d j) := by
  have hg := (gG (grid1.coords t)).isLt
  have ht := (gT (grid1.coords t)).isLt
  blk_simp [iblk1]
  blk_ext [ix_4]

theorem in5 (h : Fin 8) (q : Fin 256) :
    iblk1 V c 5 t (ix3 (0 : Fin 1) h q)
      = V c main_v3 (ix3 (gB (grid1.coords t)) (Fin.ofNat 16 (8 * (gG (grid1.coords t)).val + h.val)) (Fin.ofNat 4096 (256 * (gT (grid1.coords t)).val + q.val))) := by
  have hg := (gG (grid1.coords t)).isLt
  have ht := (gT (grid1.coords t)).isLt
  blk_simp [iblk1]
  blk_ext [ix_5]
  all_goals (simp only [Fin.ofNat]; omega)

theorem in6 (j : Fin 4096) (h : Fin 8) :
    iblk1 V c 6 t (ix4 (0 : Fin 1) (0 : Fin 1) j h)
      = V c main_v5 (ix4 (gB (grid1.coords t)) (gG (grid1.coords t)) j h) := by
  have hg := (gG (grid1.coords t)).isLt
  have ht := (gT (grid1.coords t)).isLt
  blk_simp [iblk1]
  blk_ext [ix_6]

theorem in7 (d : Fin 96) :
    iblk1 V c 7 t (ix4 (0 : Fin 1) (0 : Fin 1) d (0 : Fin 1))
      = V c main_v9 (ix4 (gB (grid1.coords t)) (gG (grid1.coords t)) d (0 : Fin 1)) := by
  have hg := (gG (grid1.coords t)).isLt
  have ht := (gT (grid1.coords t)).isLt
  blk_simp [iblk1]
  blk_ext [ix_7]

/-- The causal score of the whole arrays, at the region's entry contents. -/
def rs (b : Fin 6) (H : Fin 16) (n j : ℕ) : EReal :=
  cs (V c main_arg1) (V c main_arg3) (V c main_v6) (V c main_v7) (V c main_v3) (V c main_v5) b H n j
/-- The values, at the region's entry contents. -/
def rv (b : Fin 6) (H : Fin 16) (d : Fin 96) (j : ℕ) : EReal := gv (V c main_v8) b H d j

theorem ms_eq (h : Fin 8) (q : Fin 256) (j : ℕ) :
    ms (grid1.coords t) (iblk1 V c 0 t) (iblk1 V c 1 t) (iblk1 V c 2 t) (iblk1 V c 3 t) (iblk1 V c 5 t) (iblk1 V c 6 t) h q j
      = rs V c (gB (grid1.coords t)) (Fin.ofNat 16 (8 * (gG (grid1.coords t)).val + h.val)) (256 * (gT (grid1.coords t)).val + q.val) j := by
  have hg := (gG (grid1.coords t)).isLt
  have ht := (gT (grid1.coords t)).isLt
  have hh := h.isLt
  have e1 : (Fin.ofNat 2 ((Fin.ofNat 16 (8 * (gG (grid1.coords t)).val + h.val)).val / 8)) = (gG (grid1.coords t)) := by
    apply Fin.ext; simp only [Fin.ofNat]; omega
  have e2 : (Fin.ofNat 8 ((Fin.ofNat 16 (8 * (gG (grid1.coords t)).val + h.val)).val % 8)) = h := by
    apply Fin.ext; simp only [Fin.ofNat]; omega
  have e3 : (256 * (gT (grid1.coords t)).val + q.val) / 128 = 2 * (gT (grid1.coords t)).val + q.val / 128 := by omega
  unfold ms rs cs bs gs
  rw [in0, in1, in5, in6, e1, e2, e3]
  simp only [in2, in3]

theorem vl_eq (h : Fin 8) (d : Fin 96) (j : ℕ) :
    vl (iblk1 V c 4 t) d j = rv V c (gB (grid1.coords t)) (Fin.ofNat 16 (8 * (gG (grid1.coords t)).val + h.val)) d j := by
  have hg := (gG (grid1.coords t)).isLt
  have hh := h.isLt
  have e1 : (Fin.ofNat 2 ((Fin.ofNat 16 (8 * (gG (grid1.coords t)).val + h.val)).val / 8)) = (gG (grid1.coords t)) := by
    apply Fin.ext; simp only [Fin.ofNat]; omega
  unfold vl rv gv
  rw [in4, e1]

/-- The output of query `n` at feature column `e` (head `e / 96`, feature `e % 96`), over the keys up to the end of the
    query's tile. -/
def outAt (b : Fin 6) (n : Fin 4096) (e : Fin 1536) : EReal :=
  Online.ov (rs V c b (Fin.ofNat 16 (e.val / 96)) n) (rv V c b (Fin.ofNat 16 (e.val / 96)) (Fin.ofNat 96 (e.val % 96))) (256 * (n.val / 256) + 256)
    * Ideal.div 1 (Online.ls (rs V c b (Fin.ofNat 16 (e.val / 96)) n) (256 * (n.val / 256) + 256))
    * V c main_v9 (ix4 b (Fin.ofNat 2 (e.val / 768)) (Fin.ofNat 96 (e.val % 96)) (0 : Fin 1))

/-- The log-sum-exp of query `n` at head `8 * g + h`, over the keys up to the end of the query's tile. -/
def lseAt (b : Fin 6) (g : Fin 2) (h : Fin 8) (n : Fin 4096) : EReal :=
  (Online.mx (rs V c b (Fin.ofNat 16 (8 * g.val + h.val)) n) (256 * (n.val / 256) + 256)
    + Ideal.log (Online.ls (rs V c b (Fin.ofNat 16 (8 * g.val + h.val)) n) (256 * (n.val / 256) + 256)) * (Online.L : EReal)) * ((Real.log 2 : ℝ) : EReal)

/-- The output array after the run. -/
def outArr : Buf (Elt Ideal) ((c : Thread nD τ).loc main_v10_0) := fun x : S6x4096x1536.Idx => outAt V c (x 0) (x 1) (x 2)
/-- The log-sum-exp array after the run. -/
def lseArr : Buf (Elt Ideal) ((c : Thread nD τ).loc main_v10_1) := fun x : S6x2x8x4096.Idx => lseAt V c (x 0) (x 1) (x 2) (x 3)

theorem outs_fst : (outsAt1 V c t).1 = out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) (iblk1 V c 0 t) (iblk1 V c 1 t) (iblk1 V c 2 t) (iblk1 V c 3 t) (iblk1 V c 4 t) (iblk1 V c 5 t) (iblk1 V c 6 t) (iblk1 V c 7 t) := by
  unfold outsAt1
  dsimp only

theorem outs_snd : (outsAt1 V c t).2 = out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) (iblk1 V c 0 t) (iblk1 V c 1 t) (iblk1 V c 2 t) (iblk1 V c 3 t) (iblk1 V c 4 t) (iblk1 V c 5 t) (iblk1 V c 6 t) (iblk1 V c 7 t) := by
  unfold outsAt1
  dsimp only

theorem out_pt (h : Fin 8) (q : Fin 256) (d : Fin 96) (hb : 96 * h.val + d.val < 768) (n : Fin 4096) (e : Fin 1536)
    (hn : n.val = 256 * (gT (grid1.coords t)).val + q.val) (he : e.val = 768 * (gG (grid1.coords t)).val + (96 * h.val + d.val)) :
    (outsAt1 V c t).1 (ix3 (0 : Fin 1) q (⟨96 * h.val + d.val, hb⟩ : Fin 768)) = outAt V c (gB (grid1.coords t)) n e := by
  have hg := (gG (grid1.coords t)).isLt
  have ht := (gT (grid1.coords t)).isLt
  have hh := h.isLt
  have hq := q.isLt
  have hd := d.isLt
  have e1 : Fin.ofNat 16 (e.val / 96) = Fin.ofNat 16 (8 * (gG (grid1.coords t)).val + h.val) := by
    apply Fin.ext; simp only [Fin.ofNat]; omega
  have e2 : Fin.ofNat 96 (e.val % 96) = d := by
    apply Fin.ext; simp only [Fin.ofNat]; omega
  have e3 : Fin.ofNat 2 (e.val / 768) = (gG (grid1.coords t)) := by
    apply Fin.ext; simp only [Fin.ofNat]; omega
  have e4 : 256 * (n.val / 256) + 256 = 256 * (gT (grid1.coords t)).val + 256 := by omega
  have H := out8_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) (iblk1 V c 0 t) (iblk1 V c 1 t) (iblk1 V c 2 t) (iblk1 V c 3 t) (iblk1 V c 4 t) (iblk1 V c 5 t) (iblk1 V c 6 t) (iblk1 V c 7 t) h q d
  rw [outs_fst]
  refine H.trans ?_
  unfold outAt
  rw [e1, e2, e3, e4, hn, in7]
  rw [show ms (grid1.coords t) (iblk1 V c 0 t) (iblk1 V c 1 t) (iblk1 V c 2 t) (iblk1 V c 3 t) (iblk1 V c 5 t) (iblk1 V c 6 t) h q = _ from funext (ms_eq V c t h q),
    show vl (iblk1 V c 4 t) d = _ from funext (vl_eq V c t h d)]

theorem lse_pt (h : Fin 8) (q : Fin 256) (n : Fin 4096) (hn : n.val = 256 * (gT (grid1.coords t)).val + q.val) :
    (outsAt1 V c t).2 (ix4 (0 : Fin 1) (0 : Fin 1) h q) = lseAt V c (gB (grid1.coords t)) (gG (grid1.coords t)) h n := by
  have hg := (gG (grid1.coords t)).isLt
  have ht := (gT (grid1.coords t)).isLt
  have hq := q.isLt
  have e4 : 256 * (n.val / 256) + 256 = 256 * (gT (grid1.coords t)).val + 256 := by omega
  have H := out9_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) (iblk1 V c 0 t) (iblk1 V c 1 t) (iblk1 V c 2 t) (iblk1 V c 3 t) (iblk1 V c 4 t) (iblk1 V c 5 t) (iblk1 V c 6 t) (iblk1 V c 7 t) h q
  rw [outs_snd]
  refine H.trans ?_
  unfold lseAt
  rw [e4, hn]
  rw [show ms (grid1.coords t) (iblk1 V c 0 t) (iblk1 V c 1 t) (iblk1 V c 2 t) (iblk1 V c 3 t) (iblk1 V c 5 t) (iblk1 V c 6 t) h q = _ from funext (ms_eq V c t h q)]

theorem arr8 : (dat1 V c).arrAt 8 cfg1.N = outArr V c := by
  refine (dat1 V c).arrAt_eq_of_covers 8 _ (by decide +kernel) fun t hf y => ?_
  blk_simp
  rw [after1_8]
  have hg := (gG (grid1.coords t)).isLt
  have ht := (gT (grid1.coords t)).isLt
  obtain ⟨y0, y1, y2, rfl⟩ : ∃ (y0 : Fin 1) (y1 : Fin 256) (y2 : Fin 768), y = (ix3 y0 y1 y2 : S1x256x768.Idx) :=
    ⟨y 0, y 1, y 2, by funext a; fin_cases a <;> rfl⟩
  have h1 := y1.isLt
  have h2 := y2.isLt
  obtain rfl : y0 = 0 := Subsingleton.elim _ _
  have e : y2 = (⟨96 * (⟨y2.val / 96, by omega⟩ : Fin 8).val + (⟨y2.val % 96, by omega⟩ : Fin 96).val, by show 96 * (y2.val / 96) + y2.val % 96 < 768; omega⟩ : Fin 768) := by
    apply Fin.ext; show y2.val = 96 * (y2.val / 96) + y2.val % 96; omega
  have hE : (win1_8.blk t).view.emb (ix3 (0 : Fin 1) y1 y2)
      = (ix3 (gB (grid1.coords t)) (⟨256 * (gT (grid1.coords t)).val + y1.val, by omega⟩ : Fin 4096) (⟨768 * (gG (grid1.coords t)).val + y2.val, by omega⟩ : Fin 1536) : S6x4096x1536.Idx) := by
    blk_ext [ix_8]
  rw [hE]
  show _ = outAt V c (gB (grid1.coords t)) (⟨256 * (gT (grid1.coords t)).val + y1.val, by omega⟩ : Fin 4096) (⟨768 * (gG (grid1.coords t)).val + y2.val, by omega⟩ : Fin 1536)
  exact (congrArg (fun z : Fin 768 => (outsAt1 V c t).1 (ix3 (0 : Fin 1) y1 z)) e).trans
    (out_pt V c t _ y1 _ _ _ _ rfl (by show 768 * _ + y2.val = 768 * _ + (96 * (y2.val / 96) + y2.val % 96); omega))

theorem arr9 : (dat1 V c).arrAt 9 cfg1.N = lseArr V c := by
  refine (dat1 V c).arrAt_eq_of_covers 9 _ (by decide +kernel) fun t hf y => ?_
  blk_simp
  rw [after1_9]
  have hg := (gG (grid1.coords t)).isLt
  have ht := (gT (grid1.coords t)).isLt
  obtain ⟨y0, y1, y2, y3, rfl⟩ : ∃ (y0 : Fin 1) (y1 : Fin 1) (y2 : Fin 8) (y3 : Fin 256), y = (ix4 y0 y1 y2 y3 : S1x1x8x256.Idx) :=
    ⟨y 0, y 1, y 2, y 3, by funext a; fin_cases a <;> rfl⟩
  have h3 := y3.isLt
  obtain rfl : y0 = 0 := Subsingleton.elim _ _
  obtain rfl : y1 = 0 := Subsingleton.elim _ _
  have hE : (win1_9.blk t).view.emb (ix4 (0 : Fin 1) (0 : Fin 1) y2 y3)
      = (ix4 (gB (grid1.coords t)) (gG (grid1.coords t)) y2 (⟨256 * (gT (grid1.coords t)).val + y3.val, by omega⟩ : Fin 4096) : S6x2x8x4096.Idx) := by
    blk_ext [ix_9]
  rw [hE]
  exact lse_pt V c t y2 y3 (⟨256 * (gT (grid1.coords t)).val + y3.val, by omega⟩ : Fin 4096) rfl

end region

end Cert.Tile
-- ==== Proof.Host.lean ====
/- What the kernel program's host operations and its two kernels leave, in terms of the seven arguments: the attention
   kernel's input arrays, then the two results. -/
module

public import proofs.«01_k».proof.Proof.Gate
public import proofs.«01_k».proof.Proof.Arrays
public import Idealize.ShloMosaic.Lib.Claim

@[expose] public section

set_option maxRecDepth 16384

noncomputable section

namespace Cert.Run

open Cert.KernelIdeal Cert.KernelIdeal.Gen Idealize.ShloMosaic Idealize.ShloMosaic.TcCoe Idealize.SL.Sem

/-- The arguments at coordinates. -/
def args (q : Vec Ideal S6x4096x16x96 .fp8e4m3) (qs : Vec Ideal S6x32x16 .f32) (k : Vec Ideal S6x4096x2x96 .fp8e4m3)
    (ks : Vec Ideal S6x32x2 .f32) (v : Vec Ideal S6x4096x2x96 .fp8e4m3) (vs : Vec Ideal S6x2x96 .f32)
    (f : Vec Ideal S6x4096x16 .f32) : Spec.Args where
  q b n H d := q (ix4 b n H d)
  qs b r H := qs (ix3 b r H)
  k b n g d := k (ix4 b n g d)
  ks b r g := ks (ix3 b r g)
  v b n g d := v (ix4 b n g d)
  vs b g d := vs (ix3 b g d)
  f b n H := f (ix3 b n H)

variable (m : (ℓ : Loc nD τ sig) → Buf (Elt Ideal) ℓ) (ρ : Dev nD → PrngReg) (c : Dev nD)

/-- The arguments of the run. -/
def A : Spec.Args :=
  args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem v1_apply (b : Fin 6) (H : Fin 16) (j : Fin 4096) (r : Fin 96) (hr : r.val = 16 * b.val + H.val) :
    V1 m ρ c main_v1 (ix2 r j : S96x4096.Idx) = (A m c).f b j H := by
  have e : V1 m ρ c main_v1 = shapeCast S96x4096 (transpose S6x16x4096 [0, 2, 1] (m ((c : Thread nD τ).loc main_arg6)) transposes_S6x4096x16_S6x16x4096_0_2_1) shapeCasts_S6x16x4096_S96x4096 := by
    unfold V1 W1
    unfold_abbrev_sides
    after_results
    rfl
  rw [e]
  pointwise
  have hH := H.isLt
  have e1 : (⟨r.val / 16, by omega⟩ : Fin 6) = b := Fin.ext (by show r.val / 16 = b.val; omega)
  have e2 : (⟨r.val % 16, by omega⟩ : Fin 16) = H := Fin.ext (by show r.val % 16 = H.val; omega)
  rw [e1, e2]
  rfl

/-- The gate array: the running sums in base two. -/
theorem v2_apply (b : Fin 6) (H : Fin 16) (j : Fin 4096) (r : Fin 96) (hr : r.val = 16 * b.val + H.val) :
    W2 m ρ c (Proc.devRef .tc main_v2) (ix2 r j : S96x4096.Idx) = Spec.gate (A m c) b H j * (Online.L : EReal) := by
  rw [show W2 m ρ c (Proc.devRef .tc main_v2) = _ from (W2_arr m ρ c 1).trans (Gate.gate_arr (V1 m ρ) c)]
  show (∑ i ∈ Finset.range (j.val + 1), Gate.gl (V1 m ρ c main_v1) r i) * _ = _
  refine congrArg (· * _) (Finset.sum_congr rfl fun i _ => ?_)
  exact congrArg Spec.lsg (v1_apply m ρ c b H _ r hr)

theorem v3_apply (b : Fin 6) (H : Fin 16) (j : Fin 4096) :
    V3 m ρ c main_v3 (ix3 b H j : S6x16x4096.Idx) = Spec.gate (A m c) b H j * (Online.L : EReal) := by
  have e : V3 m ρ c main_v3 = shapeCast S6x16x4096 (W2 m ρ c (Proc.devRef .tc main_v2)) shapeCasts_S96x4096_S6x16x4096 := by
    unfold V3 W3
    unfold_abbrev_sides
    after_results
    rfl
  rw [e]
  pointwise
  exact v2_apply m ρ c b H j _ (by show b.val * 16 + H.val = 16 * b.val + H.val; omega)

theorem v5_apply (b : Fin 6) (g : Fin 2) (j : Fin 4096) (h : Fin 8) (H : Fin 16) (hH : H.val = 8 * g.val + h.val) :
    V3 m ρ c main_v5 (ix4 b g j h : S6x2x4096x8.Idx) = Spec.gate (A m c) b H j * (Online.L : EReal) := by
  have e : V3 m ρ c main_v5 = transpose S6x2x4096x8 [0, 1, 3, 2] (shapeCast S6x2x8x4096 (shapeCast S6x16x4096 (W2 m ρ c (Proc.devRef .tc main_v2)) shapeCasts_S96x4096_S6x16x4096) shapeCasts_S6x16x4096_S6x2x8x4096) transposes_S6x2x8x4096_S6x2x4096x8_0_1_3_2 := by
    unfold V3 W3
    unfold_abbrev_sides
    after_results
    rfl
  rw [e]
  pointwise
  exact v2_apply m ρ c b H j _ (by show b.val * 16 + g.val * 8 + h.val = 16 * b.val + H.val; omega)

theorem v6_apply (b : Fin 6) (H : Fin 16) (n : Fin 4096) (d : Fin 96) :
    V3 m ρ c main_v6 (ix4 b H n d : S6x16x4096x96.Idx) = (A m c).q b n H d := by
  have e : V3 m ρ c main_v6 = transpose S6x16x4096x96 [0, 2, 1, 3] (W2 m ρ c (Proc.devRef .tc main_arg0)) transposes_S6x4096x16x96_S6x16x4096x96_0_2_1_3 := by
    unfold V3 W3
    unfold_abbrev_sides
    after_results
  rw [e, W2_args m ρ c main_arg0 (by decide)]
  pointwise
  rfl

theorem v7_apply (b : Fin 6) (g : Fin 2) (n : Fin 4096) (d : Fin 96) :
    V3 m ρ c main_v7 (ix4 b g n d : S6x2x4096x96.Idx) = (A m c).k b n g d := by
  have e : V3 m ρ c main_v7 = transpose S6x2x4096x96 [0, 2, 1, 3] (W2 m ρ c (Proc.devRef .tc main_arg2)) transposes_S6x4096x2x96_S6x2x4096x96_0_2_1_3 := by
    unfold V3 W3
    unfold_abbrev_sides
    after_results
  rw [e, W2_args m ρ c main_arg2 (by decide)]
  pointwise
  rfl

theorem v8_apply (b : Fin 6) (g : Fin 2) (n : Fin 4096) (d : Fin 96) :
    V3 m ρ c main_v8 (ix4 b g d n : S6x2x96x4096.Idx) = (A m c).v b n g d := by
  have e : V3 m ρ c main_v8 = transpose S6x2x96x4096 [0, 2, 3, 1] (W2 m ρ c (Proc.devRef .tc main_arg4)) transposes_S6x4096x2x96_S6x2x96x4096_0_2_3_1 := by
    unfold V3 W3
    unfold_abbrev_sides
    after_results
  rw [e, W2_args m ρ c main_arg4 (by decide)]
  pointwise
  rfl

theorem v9_apply (b : Fin 6) (g : Fin 2) (d : Fin 96) :
    V3 m ρ c main_v9 (ix4 b g d (0 : Fin 1) : S6x2x96x1.Idx) = (A m c).vs b g d := by
  have e : V3 m ρ c main_v9 = broadcastInDim S6x2x96x1 ![0, 1, 2] bcast_S6x2x96_S6x2x96x1_0_1_2 (W2 m ρ c (Proc.devRef .tc main_arg5)) := by
    unfold V3 W3
    unfold_abbrev_sides
    after_results
  rw [e, W2_args m ρ c main_arg5 (by decide)]
  pointwise
  rfl

/-- The base-two constant of the scores is the natural one times `1 / log 2`. -/
theorem scale_eq : Tile.κs = (((Real.sqrt 96)⁻¹ : ℝ) : EReal) * (Online.L : EReal) := by
  rw [← EReal.coe_mul]
  unfold Tile.κs Online.L
  rw [mul_inv, mul_comm]

theorem grp_eq (H : Fin 16) : Fin.ofNat 2 (H.val / 8) = Spec.grp H := by
  have := H.isLt
  apply Fin.ext; show H.val / 8 % 2 = H.val / 8; omega

/-- The attention kernel's base-two scores of the arguments. -/
theorem rs_eq (b : Fin 6) (H : Fin 16) (n j : ℕ) (hn : n < 4096) : Tile.rs (V3 m ρ) c b H n j = Spec.causal2 (A m c) b H n j := by
  have hH := H.isLt
  have en : ∀ i, i < 4096 → (Fin.ofNat 4096 i).val = i := fun i hi => Nat.mod_eq_of_lt hi
  unfold Tile.rs Tile.cs Spec.causal2 Spec.causal
  by_cases h : j ≤ n
  · rw [if_pos h, if_pos h]
    unfold Tile.gs Spec.score
    rw [grp_eq]
    rw [show V3 m ρ c main_v3 (ix3 b H (Fin.ofNat 4096 n) : S6x16x4096.Idx) = Spec.gate (A m c) b H n * (Online.L : EReal) by
        rw [v3_apply, en n hn],
      show V3 m ρ c main_v5 (ix4 b (Spec.grp H) (Fin.ofNat 4096 j) (Fin.ofNat 8 (H.val % 8)) : S6x2x4096x8.Idx) = Spec.gate (A m c) b H j * (Online.L : EReal) by
        rw [v5_apply m ρ c b (Spec.grp H) (Fin.ofNat 4096 j) (Fin.ofNat 8 (H.val % 8)) H
          (by show H.val = 8 * (H.val / 8) + H.val % 8 % 8; omega), en j (by omega)],
      show V3 m ρ c main_arg1 = m ((c : Thread nD τ).loc main_arg1) from W3_args m ρ c main_arg1 (by decide),
      show V3 m ρ c main_arg3 = m ((c : Thread nD τ).loc main_arg3) from W3_args m ρ c main_arg3 (by decide)]
    rw [Online.add_mul_real Online.L_pos.le, Online.sub_mul_real Online.L_pos.le, scale_eq]
    refine congrArg (· + _) ?_
    rw [mul_assoc (Finset.sum _ _), mul_assoc _ _ (Online.L : EReal)]
    refine congrArg₂ (· * ·) (Finset.sum_congr rfl fun d _ => ?_) rfl
    exact congrArg₂ (· * ·) (v7_apply m ρ c b (Spec.grp H) _ d) (v6_apply m ρ c b H _ d)
  · rw [if_neg h, if_neg h, EReal.bot_mul_coe_of_pos Online.L_pos]

theorem rv_eq (b : Fin 6) (H : Fin 16) (d : Fin 96) (j : ℕ) :
    Tile.rv (V3 m ρ) c b H d j = (A m c).v b (Fin.ofNat 4096 j) (Spec.grp H) d := by
  unfold Tile.rv Tile.gv
  rw [grp_eq]
  exact v8_apply m ρ c b (Spec.grp H) _ d

/-- The head of an output column, and its feature. -/
def colHead (e : Fin 1536) : Fin 16 := ⟨e.val / 96, by have := e.isLt; omega⟩
def colFeat (e : Fin 1536) : Fin 96 := ⟨e.val % 96, by omega⟩

/-- The output array at the end of the run. -/
theorem out_result (b : Fin 6) (n : Fin 4096) (e : Fin 1536) :
    W5 m ρ c (Proc.devRef .tc main_v10_0) (ix3 b n e : S6x4096x1536.Idx) = Spec.out (A m c) b n (colHead e) (colFeat e) := by
  have hn := n.isLt
  have he := e.isLt
  rw [show W5 m ρ c (Proc.devRef .tc main_v10_0) = _ from
    (W5_of m ρ c main_v10_0 (by decide)).trans ((W4_arr m ρ c 8).trans (Tile.arr8 (V3 m ρ) c))]
  show Tile.outAt (V3 m ρ) c b n e = _
  unfold Tile.outAt
  have e1 : Fin.ofNat 16 (e.val / 96) = colHead e := by apply Fin.ext; show e.val / 96 % 16 = e.val / 96; omega
  have e2 : Fin.ofNat 96 (e.val % 96) = colFeat e := by apply Fin.ext; show e.val % 96 % 96 = e.val % 96; omega
  have e3 : Fin.ofNat 2 (e.val / 768) = Spec.grp (colHead e) := by
    apply Fin.ext; show e.val / 768 % 2 = e.val / 96 / 8; omega
  rw [e1, e2, e3, show Tile.rs (V3 m ρ) c b (colHead e) n.val = _ from funext fun j => rs_eq m ρ c b (colHead e) n.val j hn,
    show Tile.rv (V3 m ρ) c b (colHead e) (colFeat e) = _ from funext fun j => rv_eq m ρ c b (colHead e) (colFeat e) j, v9_apply]
  exact Spec.out_eq (A m c) b n (colHead e) (colFeat e) _ (by omega) (by omega)

/-- The log-sum-exp array at the end of the run. -/
theorem lse_result (b : Fin 6) (n : Fin 4096) (H : Fin 16) :
    W5 m ρ c (Proc.devRef .tc main_v12) (ix3 b n H : S6x4096x16.Idx) = Spec.lse (A m c) b n H := by
  have hn := n.isLt
  have hH := H.isLt
  have e : W5 m ρ c (Proc.devRef .tc main_v12) = transpose S6x4096x16 [0, 2, 1] (shapeCast S6x16x4096 (W4 m ρ c (Proc.devRef .tc main_v10_1)) shapeCasts_S6x2x8x4096_S6x16x4096) transposes_S6x16x4096_S6x4096x16_0_2_1 := by
    unfold W5
    unfold_abbrev_sides
    after_results
    rfl
  rw [e, show W4 m ρ c (Proc.devRef .tc main_v10_1) = _ from (W4_arr m ρ c 9).trans (Tile.arr9 (V3 m ρ) c)]
  pointwise
  show Tile.lseAt (V3 m ρ) c b (⟨H.val / 8, by omega⟩ : Fin 2) (⟨H.val % 8, by omega⟩ : Fin 8) n = _
  unfold Tile.lseAt
  have e1 : Fin.ofNat 16 (8 * (⟨H.val / 8, by omega⟩ : Fin 2).val + (⟨H.val % 8, by omega⟩ : Fin 8).val) = H := by
    apply Fin.ext; show (8 * (H.val / 8) + H.val % 8) % 16 = H.val; omega
  rw [e1, show Tile.rs (V3 m ρ) c b H n.val = _ from funext fun j => rs_eq m ρ c b H n.val j hn]
  exact Spec.lse_eq (A m c) b n H _ (by omega) (by omega)

end Cert.Run
-- ==== Proof.Run.lean ====
/- The run of the kernel program: every result, and the arguments unchanged. -/
module

public import proofs.«01_k».proof.Proof.Host
public import Idealize.ShloMosaic.Lib.Tactic
public import Idealize.ShloMosaic.Lib.Ring

@[expose] public section

set_option maxRecDepth 16384

noncomputable section

namespace Cert.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends with the two results at the contents that the program's text computes, and the arguments unchanged. -/
theorem run : θ_run defs (onTc (τ := τ) (main (F := Ideal))) ⟨m, fun _ => 0, ρ⟩ (fun r => ∀ c : Dev nD,
      r.2.mem ((c.tc : Thread nD τ).loc main_v10_0) = W5 m ρ c (Proc.devRef .tc main_v10_0)
      ∧ r.2.mem ((c.tc : Thread nD τ).loc main_v12) = W5 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v10_0 (by decide))).trans rfl,
       (h c _ (mem_uc main_v12 (by decide))).trans rfl,
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.Run
-- ==== Proof.RefGate.lean ====
/- The reference's gates: the log-sigmoid of each gate and its running sum along the positions. -/
module

public import proofs.«01_k».proof.Proof.Gen.ReferenceIdeal.Read
public import proofs.«01_k».proof.Proof.Spec
public import Idealize.ShloMosaic.Lib.Pointwise

@[expose] public section

noncomputable section

namespace Cert.RefVal

open Cert.ReferenceIdeal Cert.ReferenceIdeal.Gen Cert.ReferenceIdeal.Read Idealize Idealize.ShloMosaic

/-- A left fold of additions from zero over all of `Fin N` is the sum. -/
theorem foldl_add_sum {N : ℕ} (f : Fin N → EReal) : (List.finRange N).foldl (fun r n => r + f n) 0 = ∑ n, f n := by
  rw [Fin.sum_univ_def, List.sum_eq_foldl, List.foldl_map]

/-- Over the reals a windowed sum is the fold of additions over the window. -/
theorem window_fold {s t u : Shape} (w st lo hi : Fin s.rank → ℕ) (x : FVec Ideal s .f32) (init : u.Idx → EReal)
    (h : s.ReduceWindows w st lo hi t) (hu : 0 < u.numel) :
    Host.reduceWindowAdd (F := Ideal) (φ := .f32) w st lo hi x init h hu = Host.reduceWindow (· + ·) w st lo hi x init h hu := rfl

/-- Position `w` of a window of 4096 along the second axis is its index `(0, w, 0)`. -/
theorem window_pos (w : Fin (⟨3, ![1, 4096, 1]⟩ : Shape).numel) :
    ((⟨3, ![1, 4096, 1]⟩ : Shape).rowMajor.symm w 0).val = 0 ∧ ((⟨3, ![1, 4096, 1]⟩ : Shape).rowMajor.symm w 1).val = w.val
      ∧ ((⟨3, ![1, 4096, 1]⟩ : Shape).rowMajor.symm w 2).val = 0 := by
  have e : ((⟨3, ![1, 4096, 1]⟩ : Shape).rowMajor ((⟨3, ![1, 4096, 1]⟩ : Shape).rowMajor.symm w)).val = w.val := by rw [Equiv.apply_symm_apply]
  rw [Shape.rowMajor_val_three] at e
  have h0 : ((⟨3, ![1, 4096, 1]⟩ : Shape).rowMajor.symm w 0).val < 1 := ((⟨3, ![1, 4096, 1]⟩ : Shape).rowMajor.symm w 0).isLt
  have h2 : ((⟨3, ![1, 4096, 1]⟩ : Shape).rowMajor.symm w 2).val < 1 := ((⟨3, ![1, 4096, 1]⟩ : Shape).rowMajor.symm w 2).isLt
  change (((⟨3, ![1, 4096, 1]⟩ : Shape).rowMajor.symm w 0).val * 4096 + ((⟨3, ![1, 4096, 1]⟩ : Shape).rowMajor.symm w 1).val) * 1
    + ((⟨3, ![1, 4096, 1]⟩ : Shape).rowMajor.symm w 2).val = w.val at e
  omega

/-- The running sum along the second axis, as a windowed sum prints: entry `(b, n, H)` is the sum of the entries
    `(b, 0, H)`, …, `(b, n, H)`. -/
theorem cumsum_apply (x : FVec Ideal S6x4096x16 .f32) (init : S_.Idx → EReal) (h0 : ∀ i, init i = 0)
    (h : S6x4096x16.ReduceWindows ![1, 4096, 1] ![1, 1, 1] ![0, 4095, 0] ![0, 0, 0] S6x4096x16) (hu : 0 < S_.numel)
    (b : Fin 6) (n : Fin 4096) (H : Fin 16) :
    Host.reduceWindowAdd (F := Ideal) (φ := .f32) ![1, 4096, 1] ![1, 1, 1] ![0, 4095, 0] ![0, 0, 0] x init h hu (ix3 b n H : S6x4096x16.Idx)
      = ∑ i ∈ Finset.range (n.val + 1), x (ix3 b (Fin.ofNat 4096 i) H : S6x4096x16.Idx) := by
  rw [window_fold]
  unfold Host.reduceWindow
  dsimp only
  rw [h0]
  rw [foldl_add_sum]
  have hW : (⟨3, ![1, 4096, 1]⟩ : Shape).numel = 4096 := by decide
  have hn := n.isLt
  let g : ℕ → EReal := fun w => if 4095 ≤ n.val + w then x (ix3 b (Fin.ofNat 4096 (n.val + w - 4095)) H : S6x4096x16.Idx) else 0
  trans ∑ w : Fin (⟨3, ![1, 4096, 1]⟩ : Shape).numel, g w.val
  · refine Finset.sum_congr rfl fun w _ => ?_
    obtain ⟨hw0, hw1, hw2⟩ := window_pos w
    split
    · next hin =>
      have h1 := (hin 1).1
      change 4095 ≤ n.val * 1 + ((⟨3, ![1, 4096, 1]⟩ : Shape).rowMajor.symm w 1).val at h1
      rw [hw1] at h1
      show _ = if _ then _ else _
      rw [if_pos (by omega)]
      have hw : w.val < 4096 := lt_of_lt_of_eq w.isLt hW
      refine congrArg x (funext fun a => Fin.ext ?_)
      match a with
      | ⟨0, _⟩ =>
        show b.val * 1 + ((⟨3, ![1, 4096, 1]⟩ : Shape).rowMajor.symm w 0).val - 0 = b.val
        rw [hw0]; omega
      | ⟨1, _⟩ =>
        show n.val * 1 + ((⟨3, ![1, 4096, 1]⟩ : Shape).rowMajor.symm w 1).val - 4095 = (n.val + w.val - 4095) % 4096
        rw [hw1]; omega
      | ⟨2, _⟩ =>
        show H.val * 1 + ((⟨3, ![1, 4096, 1]⟩ : Shape).rowMajor.symm w 2).val - 0 = H.val
        rw [hw2]; omega
    · next hin =>
      refine (if_neg fun hle => hin fun a => ?_).symm
      have hb := b.isLt
      have hH := H.isLt
      have hw : w.val < 4096 := lt_of_lt_of_eq w.isLt hW
      match a with
      | ⟨0, _⟩ =>
        show 0 ≤ b.val * 1 + ((⟨3, ![1, 4096, 1]⟩ : Shape).rowMajor.symm w 0).val ∧ b.val * 1 + ((⟨3, ![1, 4096, 1]⟩ : Shape).rowMajor.symm w 0).val - 0 < 6
        rw [hw0]; omega
      | ⟨1, _⟩ =>
        show 4095 ≤ n.val * 1 + ((⟨3, ![1, 4096, 1]⟩ : Shape).rowMajor.symm w 1).val ∧ n.val * 1 + ((⟨3, ![1, 4096, 1]⟩ : Shape).rowMajor.symm w 1).val - 4095 < 4096
        rw [hw1]; omega
      | ⟨2, _⟩ =>
        show 0 ≤ H.val * 1 + ((⟨3, ![1, 4096, 1]⟩ : Shape).rowMajor.symm w 2).val ∧ H.val * 1 + ((⟨3, ![1, 4096, 1]⟩ : Shape).rowMajor.symm w 2).val - 0 < 16
        rw [hw2]; omega
  have hs : Finset.range 4096 = Finset.range ((4095 - n.val) + (n.val + 1)) := congrArg _ (by omega)
  rw [Fin.sum_univ_eq_sum_range g, hW, hs, Finset.sum_range_add,
    Finset.sum_eq_zero (fun i hi => if_neg (by rw [Finset.mem_range] at hi; omega)), zero_add]
  refine Finset.sum_congr rfl fun i hi => ?_
  rw [Finset.mem_range] at hi
  show (if _ then _ else _) = _
  rw [if_pos (by omega), show n.val + (4095 - n.val + i) - 4095 = i from by omega]

theorem log1p_zero : Ideal.log1p (0 : EReal) = ((0 : ℝ) : EReal) := by
  unfold Ideal.log1p
  rw [add_zero, ← EReal.coe_one]
  show (if (1 : ℝ) ≤ 0 then ⊥ else ((Real.log 1 : ℝ) : EReal)) = _
  rw [if_neg (by norm_num), Real.log_one]

/-- The logarithm of one plus the exponential of minus an absolute value is a real number. -/
theorem log1p_real (x : EReal) : ∃ r : ℝ, Ideal.log1p (Ideal.exp (-max x (-x))) = (r : EReal) := by
  induction x using EReal.rec with
  | bot => exact ⟨0, by rw [EReal.neg_bot, max_eq_right bot_le]; exact log1p_zero⟩
  | top => exact ⟨0, by rw [EReal.neg_top, max_eq_left bot_le]; exact log1p_zero⟩
  | coe a =>
    have e : -max (a : EReal) (-(a : EReal)) = ((-max a (-a) : ℝ) : EReal) := by
      rw [← EReal.coe_neg, EReal.coe_neg (max a (-a)), EReal.coe_strictMono.monotone.map_max]
    rw [e]
    have h : (0 : ℝ) < 1 + Real.exp (-max a (-a)) := by positivity
    refine ⟨Real.log (1 + Real.exp (-max a (-a))), ?_⟩
    show Ideal.log (1 + ((Real.exp (-max a (-a)) : ℝ) : EReal)) = _
    rw [← EReal.coe_one, ← EReal.coe_add]
    exact if_neg (not_le.2 h)

/-- The reference's log-sigmoid, minus the softplus of the negated gate. -/
theorem lsg_eq (x : EReal) : -(max (-x) 0 + Ideal.log1p (Ideal.exp (-max (-x) (- -x)))) = Spec.lsg x := by
  have e : -max (-x) (- -x) = -max x (-x) := by rw [neg_neg, max_comm]
  rw [e]
  unfold Spec.lsg
  show _ = min x 0 - Ideal.log1p (Ideal.exp (0 - max x (-x)))
  rw [zero_sub]
  obtain ⟨r, hr⟩ := log1p_real x
  rw [hr, EReal.neg_add (.inr (EReal.coe_ne_top r)) (.inr (EReal.coe_ne_bot r))]
  congr 1
  rcases le_total x 0 with h | h
  · rw [max_eq_left (by simpa using h), min_eq_left h, neg_neg]
  · rw [max_eq_right (by simpa using h), min_eq_right h, neg_zero]

/-- The log-sigmoid array. -/
theorem v15_apply (x6 : FVec Ideal S6x4096x16 .f32) (b : Fin 6) (n : Fin 4096) (H : Fin 16) :
    val_main_v15 (F := Ideal) x6 (ix3 b n H : S6x4096x16.Idx) = Spec.lsg (x6 (ix3 b n H : S6x4096x16.Idx)) := by
  rw [← lsg_eq]
  unfold val_main_v15 val_main_v14 val_main_v6 val_main_v8 val_main_v13 val_main_v12 val_main_v11 val_main_v10 val_main_v9 val_main_v5 val_main_v3 val_main_v2 val_main_v4 val_main_v7 val_main_v1 val_main_cst
  pointwise
  rw [if_neg (fun h => h rfl)]
  rfl

/-- The running sums. -/
theorem v16_apply (x6 : FVec Ideal S6x4096x16 .f32) (b : Fin 6) (n : Fin 4096) (H : Fin 16) :
    val_main_v16 (F := Ideal) x6 (ix3 b n H : S6x4096x16.Idx)
      = ∑ i ∈ Finset.range (n.val + 1), Spec.lsg (x6 (ix3 b (Fin.ofNat 4096 i) H : S6x4096x16.Idx)) := by
  unfold val_main_v16
  rw [cumsum_apply _ _ (fun i => by unfold val_main_call0_v0 val_main_call0_cst; pointwise)]
  exact Finset.sum_congr rfl fun i _ => v15_apply x6 b _ H

end Cert.RefVal

end
-- ==== Proof.RefVal.lean ====
/- The reference's arrays at an index, up to its two results, in terms of the arguments. -/
module

public import proofs.«01_k».proof.Proof.RefGate
public import Idealize.ShloMosaic.Lib.WordCmp

@[expose] public section

set_option maxRecDepth 16384

noncomputable section

namespace Cert.RefVal

open Cert.ReferenceIdeal Cert.ReferenceIdeal.Gen Cert.ReferenceIdeal.Read Idealize Idealize.ShloMosaic

/-- The reference's arguments at coordinates: the scales and the gates as they come, the queries, keys and values widened. -/
def args (r0 : FVec Ideal S6x4096x16x96 .f32) (x1 : FVec Ideal S6x32x16 .f32) (r1 : FVec Ideal S6x4096x2x96 .f32) (x3 : FVec Ideal S6x32x2 .f32)
    (r2 : FVec Ideal S6x4096x2x96 .bf16) (x5 : FVec Ideal S6x2x96 .f32) (x6 : FVec Ideal S6x4096x16 .f32) : Spec.Args where
  q b n H d := r0 (ix4 b n H d)
  qs b r H := x1 (ix3 b r H)
  k b n g d := r1 (ix4 b n g d)
  ks b r g := x3 (ix3 b r g)
  v b n g d := r2 (ix4 b n g d)
  vs b g d := x5 (ix3 b g d)
  f b n H := x6 (ix3 b n H)

variable (r0 : FVec Ideal S6x4096x16x96 .f32) (x1 : FVec Ideal S6x32x16 .f32) (r1 : FVec Ideal S6x4096x2x96 .f32) (x3 : FVec Ideal S6x32x2 .f32)
  (r2 : FVec Ideal S6x4096x2x96 .bf16) (x5 : FVec Ideal S6x2x96 .f32) (x6 : FVec Ideal S6x4096x16 .f32)

/-- Head `h` of group `g`. -/
def hd (g : Fin 2) (h : Fin 8) : Fin 16 := ⟨g.val * 8 + h.val, by have := g.isLt; have := h.isLt; omega⟩

theorem grp_hd (g : Fin 2) (h : Fin 8) : Spec.grp (hd g h) = g :=
  Fin.ext (by show (g.val * 8 + h.val) / 8 = g.val; have := h.isLt; omega)

theorem ofNat_val {k : ℕ} [NeZero k] (n : Fin k) : Fin.ofNat k n.val = n := Fin.ext (Nat.mod_eq_of_lt n.isLt)

/-- The running sums, by group. -/
theorem v18_apply (b : Fin 6) (g : Fin 2) (h : Fin 8) (n : Fin 4096) :
    val_main_v18 (F := Ideal) x6 (ix4 b g h n : S6x2x8x4096.Idx) = Spec.gate (args r0 x1 r1 x3 r2 x5 x6) b (hd g h) n := by
  unfold val_main_v18 val_main_v17
  pointwise
  exact v16_apply x6 b n (hd g h)

/-- The query scale of each position. -/
theorem v23_apply (b : Fin 6) (g : Fin 2) (h : Fin 8) (n : Fin 4096) :
    val_main_v23 (F := Ideal) x1 (ix4 b g h n : S6x2x8x4096.Idx) = x1 (ix3 b (Fin.ofNat 32 (n.val / 128)) (hd g h) : S6x32x16.Idx) := by
  unfold val_main_v23 val_main_v22 val_main_v21 val_main_v20
  pointwise
  exact congrArg (fun r => x1 (ix3 b r (hd g h) : S6x32x16.Idx)) (ofNat_val (k := 32) ⟨n.val / 128, by have := n.isLt; omega⟩).symm

/-- The key scale of each position. -/
theorem v26_apply (b : Fin 6) (g : Fin 2) (n : Fin 4096) :
    val_main_v26 (F := Ideal) x3 (ix3 b g n : S6x2x4096.Idx) = x3 (ix3 b (Fin.ofNat 32 (n.val / 128)) g : S6x32x2.Idx) := by
  unfold val_main_v26 val_main_v25 val_main_v24
  pointwise
  exact congrArg (fun r => x3 (ix3 b r g : S6x32x2.Idx)) (ofNat_val (k := 32) ⟨n.val / 128, by have := n.isLt; omega⟩).symm

/-- The product of a query with a key. -/
theorem v28_apply (b : Fin 6) (g : Fin 2) (h : Fin 8) (n j : Fin 4096) :
    val_main_v28 (F := Ideal) r0 r1 (ix5 b g h n j : S6x2x8x4096x4096.Idx)
      = ∑ d : Fin 96, r1 (ix4 b j g d : S6x4096x2x96.Idx) * r0 (ix4 b n (hd g h) d : S6x4096x16x96.Idx) := by
  unfold val_main_v28 val_main_v27 val_main_v19
  pointwise
  rfl

/-- The word of 96 is 96. -/
theorem ofBits_96 : Ideal.ofBits .f32 0x42C00000#32 = ((96 : ℝ) : EReal) := by
  simp [Ideal.ofBits, Ideal.ieee]
  rw [← EReal.coe_mul]
  norm_num

/-- One over the square root of 96. -/
theorem scale_eq : Ideal.div 1 (Ideal.sqrt (Ideal.ofBits .f32 0x42C00000#32)) = (((Real.sqrt 96)⁻¹ : ℝ) : EReal) := by
  rw [ofBits_96]
  have h : (0 : ℝ) < Real.sqrt 96 := Real.sqrt_pos.2 (by norm_num)
  rw [show Ideal.sqrt ((96 : ℝ) : EReal) = ((Real.sqrt 96 : ℝ) : EReal) from if_neg (by norm_num)]
  unfold Ideal.div
  rw [if_neg (by rw [← EReal.coe_zero]; exact fun e => h.ne' (EReal.coe_injective e)), one_mul, EReal.coe_inv]

/-- The scales of a score. -/
theorem v37_apply (b : Fin 6) (g : Fin 2) (h : Fin 8) (n j : Fin 4096) :
    val_main_v37 (F := Ideal) x1 x3 (ix5 b g h n j : S6x2x8x4096x4096.Idx)
      = x1 (ix3 b (Fin.ofNat 32 (n.val / 128)) (hd g h) : S6x32x16.Idx) * x3 (ix3 b (Fin.ofNat 32 (j.val / 128)) g : S6x32x2.Idx)
        * (((Real.sqrt 96)⁻¹ : ℝ) : EReal) := by
  rw [← scale_eq, ← v23_apply x1 b g h n, ← v26_apply x3 b g j]
  unfold val_main_v37 val_main_v36 val_main_v35 val_main_v34 val_main_v33 val_main_v32 val_main_v31 val_main_v30 val_main_v29 val_main_cst_0 val_main_cst_1
  pointwise

/-- The gate bias of a score. -/
theorem v43_apply (b : Fin 6) (g : Fin 2) (h : Fin 8) (n j : Fin 4096) :
    val_main_v43 (F := Ideal) x6 (ix5 b g h n j : S6x2x8x4096x4096.Idx)
      = Spec.gate (args r0 x1 r1 x3 r2 x5 x6) b (hd g h) n - Spec.gate (args r0 x1 r1 x3 r2 x5 x6) b (hd g h) j := by
  rw [← v18_apply, ← v18_apply]
  unfold val_main_v43 val_main_v42 val_main_v41 val_main_v40 val_main_v39
  pointwise

/-- The score. -/
theorem v44_apply (b : Fin 6) (g : Fin 2) (h : Fin 8) (n j : Fin 4096) :
    val_main_v44 (F := Ideal) x1 x3 x6 r0 r1 (ix5 b g h n j : S6x2x8x4096x4096.Idx)
      = Spec.score (args r0 x1 r1 x3 r2 x5 x6) b (hd g h) n j := by
  show val_main_v28 (F := Ideal) r0 r1 (ix5 b g h n j : S6x2x8x4096x4096.Idx) * val_main_v37 (F := Ideal) x1 x3 (ix5 b g h n j : S6x2x8x4096x4096.Idx)
    + val_main_v43 (F := Ideal) x6 (ix5 b g h n j : S6x2x8x4096x4096.Idx) = _
  rw [v28_apply, v37_apply, v43_apply r0 x1 r1 x3 r2 x5]
  unfold Spec.score
  rw [grp_hd, ofNat_val, ofNat_val]
  rfl

/-- The causal mask. -/
theorem call1_v1_apply (b : Fin 6) (g : Fin 2) (h : Fin 8) (n j : Fin 4096) :
    val_main_call1_v1 (F := Ideal) (ix5 b g h n j : S6x2x8x4096x4096.Idx) = BitVec.ofBool (decide (j.val ≤ n.val)) := by
  unfold val_main_call1_v1 val_main_v50 val_main_v49 val_main_v48 val_main_v47 val_main_v46 val_main_v45
  pointwise
  have hj := j.isLt
  have hn := n.isLt
  rw [WordCmp.cmpi_sle_of_lt (by rw [BitVec.toNat_ofNat]; omega) (by rw [BitVec.toNat_ofNat]; omega), BitVec.toNat_ofNat, BitVec.toNat_ofNat,
    Nat.mod_eq_of_lt (by omega), Nat.mod_eq_of_lt (by omega)]

theorem ofBits_bot : Ideal.ofBits .f32 0xFF800000#32 = ⊥ := by simp [Ideal.ofBits, Ideal.ieee]

theorem call1_v2_apply (b : Fin 6) (g : Fin 2) (h : Fin 8) (n j : Fin 4096) :
    val_main_call1_v2 (F := Ideal) (ix5 b g h n j : S6x2x8x4096x4096.Idx) = ⊥ := by
  unfold val_main_call1_v2 val_main_call1_v0 val_main_cst_2
  pointwise
  exact ofBits_bot

/-- The masked score. -/
theorem v51_apply (b : Fin 6) (g : Fin 2) (h : Fin 8) (n j : Fin 4096) :
    val_main_v51 (F := Ideal) x1 x3 x6 r0 r1 (ix5 b g h n j : S6x2x8x4096x4096.Idx)
      = Spec.causal (args r0 x1 r1 x3 r2 x5 x6) b (hd g h) n j := by
  rw [val_main_v51_apply, call1_v1_apply, call1_v2_apply, v44_apply r0 x1 r1 x3 r2 x5]
  unfold Spec.causal
  by_cases hj : j.val ≤ n.val
  · rw [decide_eq_true hj, if_pos hj]; rfl
  · rw [decide_eq_false hj, if_neg hj]; rfl

/-- The maximum over the first `N` positions, over `Fin N`. -/
theorem mx_fin (S : ℕ → EReal) (N : ℕ) : Online.mx S N = Finset.fold max ⊥ (fun j : Fin N => S j) Finset.univ := by
  show (Finset.range N).sup S = Finset.univ.sup (fun j : Fin N => S j)
  refine le_antisymm (Finset.sup_le fun j hj => ?_) (Finset.sup_le fun j _ => Finset.le_sup (f := S) (Finset.mem_range.2 j.isLt))
  exact Finset.le_sup (f := fun j : Fin N => S j) (Finset.mem_univ (⟨j, Finset.mem_range.1 hj⟩ : Fin N))

/-- The maximal score of a query. -/
theorem v52_apply (b : Fin 6) (g : Fin 2) (h : Fin 8) (n : Fin 4096) :
    val_main_v52 (F := Ideal) x1 x3 x6 r0 r1 (ix4 b g h n : S6x2x8x4096.Idx) = Spec.top (args r0 x1 r1 x3 r2 x5 x6) b (hd g h) n := by
  unfold val_main_v52 val_main_cst_3
  pointwise
  rw [ofBits_bot]
  unfold Spec.top
  rw [mx_fin]
  exact Finset.fold_congr fun j _ => v51_apply r0 x1 r1 x3 r2 x5 x6 b g h n j

/-- A weight before normalization. -/
theorem v56_apply (b : Fin 6) (g : Fin 2) (h : Fin 8) (n j : Fin 4096) :
    val_main_v56 (F := Ideal) x1 x3 x6 r0 r1 (ix5 b g h n j : S6x2x8x4096x4096.Idx)
      = Ideal.exp (Spec.causal (args r0 x1 r1 x3 r2 x5 x6) b (hd g h) n j - Spec.top (args r0 x1 r1 x3 r2 x5 x6) b (hd g h) n) := by
  rw [← v51_apply, ← v52_apply]
  unfold val_main_v56 val_main_v55 val_main_v54 val_main_v53
  pointwise

/-- The sum of a query's weights. -/
theorem v57_apply (b : Fin 6) (g : Fin 2) (h : Fin 8) (n : Fin 4096) :
    val_main_v57 (F := Ideal) x1 x3 x6 r0 r1 (ix4 b g h n : S6x2x8x4096.Idx) = Spec.total (args r0 x1 r1 x3 r2 x5 x6) b (hd g h) n := by
  unfold val_main_v57 val_main_cst_4
  pointwise
  unfold Spec.total
  rw [Finset.sum_range]
  exact Finset.sum_congr rfl fun j _ => v56_apply r0 x1 r1 x3 r2 x5 x6 b g h n j

/-- The log-sum-exp, by group. -/
theorem v59_apply (b : Fin 6) (g : Fin 2) (h : Fin 8) (n : Fin 4096) :
    val_main_v59 (F := Ideal) x1 x3 x6 r0 r1 (ix4 b g h n : S6x2x8x4096.Idx) = Spec.lse (args r0 x1 r1 x3 r2 x5 x6) b n (hd g h) := by
  unfold Spec.lse
  rw [← v57_apply, ← v52_apply]
  rfl

/-- A normalized weight. -/
theorem v67_apply (b : Fin 6) (g : Fin 2) (h : Fin 8) (n j : Fin 4096) :
    val_main_v67 (F := Ideal) x1 x3 x6 r0 r1 (ix5 b g h n j : S6x2x8x4096x4096.Idx)
      = Ideal.exp (Spec.causal (args r0 x1 r1 x3 r2 x5 x6) b (hd g h) n j - Spec.top (args r0 x1 r1 x3 r2 x5 x6) b (hd g h) n
          - Ideal.log (Spec.total (args r0 x1 r1 x3 r2 x5 x6) b (hd g h) n)) := by
  rw [← v51_apply, ← v52_apply, ← v57_apply]
  unfold val_main_v67 val_main_v66 val_main_v65 val_main_v64 val_main_v63 val_main_v62 val_main_v61 val_main_v60 val_main_v58
  pointwise

/-- The weighted sum of the values. -/
theorem v72_apply (b : Fin 6) (g : Fin 2) (h : Fin 8) (n : Fin 4096) (d : Fin 96) :
    val_main_v72 (F := Ideal) x1 x3 x5 x6 r0 r1 r2 (ix5 b n g h d : S6x4096x2x8x96.Idx)
      = Spec.out (args r0 x1 r1 x3 r2 x5 x6) b n (hd g h) d := by
  unfold val_main_v72 val_main_v71 val_main_v70 val_main_v69 val_main_v68
  pointwise
  unfold Spec.out
  rw [Finset.sum_range, grp_hd]
  refine congrArg (· * _) (Finset.sum_congr rfl fun j _ => ?_)
  rw [v67_apply r0 x1 r1 x3 r2 x5, ofNat_val, mul_comm]
  rfl

/-- The first result: the attention output. -/
theorem v74_apply (b : Fin 6) (n : Fin 4096) (e : Fin 1536) :
    val_main_v74 (F := Ideal) x1 x3 x5 x6 r0 r1 r2 (ix3 b n e : S6x4096x1536.Idx)
      = Spec.out (args r0 x1 r1 x3 r2 x5 x6) b n ⟨e.val / 96, by have := e.isLt; omega⟩ ⟨e.val % 96, by omega⟩ := by
  unfold val_main_v74 val_main_v73
  pointwise
  rw [v72_apply]
  exact congrArg (fun H => Spec.out (args r0 x1 r1 x3 r2 x5 x6) b n H _) (Fin.ext (by show e.val / 768 * 8 + e.val / 96 % 8 = e.val / 96; omega))

/-- The second result: the log-sum-exp. -/
theorem v76_apply (b : Fin 6) (n : Fin 4096) (H : Fin 16) :
    val_main_v76 (F := Ideal) x1 x3 x6 r0 r1 (ix3 b n H : S6x4096x16.Idx)
      = Spec.lse (args r0 x1 r1 x3 r2 x5 x6) b n H := by
  unfold val_main_v76 val_main_v75
  pointwise
  rw [v59_apply r0 x1 r1 x3 r2 x5]
  exact congrArg (Spec.lse (args r0 x1 r1 x3 r2 x5 x6) b n) (Fin.ext (by show H.val / 8 * 8 + H.val % 8 = H.val; omega))

end Cert.RefVal

end
-- ==== Proof.RefRun.lean ====
/- The reference run: what the widening region leaves, and the two results in terms of the seven arguments. -/
module

public import proofs.«01_k».proof.Proof.RefVal
public import proofs.«01_k».proof.Proof.Gen.ReferenceIdeal.Run
public import Idealize.ShloMosaic.Lib.Pipeline.Covers
public import Idealize.ShloMosaic.Lib.Pipeline.ValueKit.Geometry

@[expose] public section

set_option maxRecDepth 16384

noncomputable section

namespace Cert.RefRun

open Cert.ReferenceIdeal Cert.ReferenceIdeal.Gen Cert.ReferenceIdeal.Read Idealize.ShloMosaic Idealize.ShloMosaic.TcCoe Idealize.SL.Sem

variable (m : (ℓ : Loc nD τ sig) → Buf (Elt Ideal) ℓ) (c : Dev nD)

theorem emb_0 (y : S6x4096x16x96.Idx) : r0_0.emb y = y := by
  funext a; refine Fin.ext ?_; fin_cases a <;> simp [r0_0, Rect.emb, Rect.unit]

theorem emb_1 (y : S6x4096x2x96.Idx) : r0_1.emb y = y := by
  funext a; refine Fin.ext ?_; fin_cases a <;> simp [r0_1, Rect.emb, Rect.unit]

/-- The widening body copies the queries: over the reals a widening changes nothing. -/
theorem out3 (x0 : Vec Ideal S6x4096x16x96 .fp8e4m3) (x1 x2 : Vec Ideal S6x4096x2x96 .fp8e4m3) (y : S6x4096x16x96.Idx) :
    out0_3 x0 x1 x2 y = x0 y := by
  have e := View.canon_cons_emb (Val := Elt Ideal) (e := .f32) r0_0 (k0_pay1 (F := Ideal) (View.ld x0 r0_0)) [] y
  rw [emb_0] at e
  exact e.trans (congrArg x0 (emb_0 y))

/-- The keys. -/
theorem out4 (x0 : Vec Ideal S6x4096x16x96 .fp8e4m3) (x1 x2 : Vec Ideal S6x4096x2x96 .fp8e4m3) (y : S6x4096x2x96.Idx) :
    out0_4 x0 x1 x2 y = x1 y := by
  have e := View.canon_cons_emb (Val := Elt Ideal) (e := .f32) r0_1 (k0_pay2 (F := Ideal) (View.ld x1 r0_1)) [] y
  rw [emb_1] at e
  exact e.trans (congrArg x1 (emb_1 y))

/-- The values. -/
theorem out5 (x0 : Vec Ideal S6x4096x16x96 .fp8e4m3) (x1 x2 : Vec Ideal S6x4096x2x96 .fp8e4m3) (y : S6x4096x2x96.Idx) :
    out0_5 x0 x1 x2 y = x2 y := by
  have e := View.canon_cons_emb (Val := Elt Ideal) (e := .bf16) r0_1 (k0_pay3 (F := Ideal) (View.ld x2 r0_1)) [] y
  rw [emb_1] at e
  exact e.trans (congrArg x2 (emb_1 y))

theorem wix0 (t : Fin cfg0.N) (a : Fin 4) : win0_0.index t a = 0 := rfl
theorem wix1 (t : Fin cfg0.N) (a : Fin 4) : win0_1.index t a = 0 := rfl
theorem wix2 (t : Fin cfg0.N) (a : Fin 4) : win0_2.index t a = 0 := rfl
theorem wix3 (t : Fin cfg0.N) (a : Fin 4) : win0_3.index t a = 0 := rfl
theorem wix4 (t : Fin cfg0.N) (a : Fin 4) : win0_4.index t a = 0 := rfl
theorem wix5 (t : Fin cfg0.N) (a : Fin 4) : win0_5.index t a = 0 := rfl

/-- The widened queries are the queries. -/
theorem reg0 : Value.reg_main_v0_0 m c = (fun y : S6x4096x16x96.Idx => m ((c.tc : Thread nD τ).loc main_arg0) y) := by
  unfold Value.reg_main_v0_0
  refine (dats m 0 c).arrAt_eq_of_covers 3 _ (by decide +kernel) fun t hf y => ?_
  blk_simp
  rw [after0_3, out3]
  have hV : V m c main_arg0 = m ((c.tc : Thread nD τ).loc main_arg0) := V_main_arg0 m c
  rw [← hV]
  blk_simp [iblk]
  blk_ext [wix0, wix3]

/-- The widened keys are the keys. -/
theorem reg1 : Value.reg_main_v0_1 m c = (fun y : S6x4096x2x96.Idx => m ((c.tc : Thread nD τ).loc main_arg2) y) := by
  unfold Value.reg_main_v0_1
  refine (dats m 0 c).arrAt_eq_of_covers 4 _ (by decide +kernel) fun t hf y => ?_
  blk_simp
  rw [after0_4, out4]
  have hV : V m c main_arg2 = m ((c.tc : Thread nD τ).loc main_arg2) := V_main_arg2 m c
  rw [← hV]
  blk_simp [iblk]
  blk_ext [wix1, wix4]

/-- The widened values are the values. -/
theorem reg2 : Value.reg_main_v0_2 m c = (fun y : S6x4096x2x96.Idx => m ((c.tc : Thread nD τ).loc main_arg4) y) := by
  unfold Value.reg_main_v0_2
  refine (dats m 0 c).arrAt_eq_of_covers 5 _ (by decide +kernel) fun t hf y => ?_
  blk_simp
  rw [after0_5, out5]
  have hV : V m c main_arg4 = m ((c.tc : Thread nD τ).loc main_arg4) := V_main_arg4 m c
  rw [← hV]
  blk_simp [iblk]
  blk_ext [wix2, wix5]

/-- The arguments of the run, at coordinates. -/
def A : Spec.Args :=
  RefVal.args (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- The reference's attention output. -/
def outArr : S6x4096x1536.Idx → EReal := fun y => Spec.out (A m c) (y 0) (y 1) ⟨(y 2).val / 96, by have : (y 2).val < 1536 := (y 2).isLt; omega⟩ ⟨(y 2).val % 96, by omega⟩

/-- The reference's log-sum-exp. -/
def lseArr : S6x4096x16.Idx → EReal := fun y => Spec.lse (A m c) (y 0) (y 1) (y 2)

theorem split3 {p q r : ℕ} (y : (⟨3, ![p, q, r]⟩ : Shape).Idx) : ∃ a b e, y = ix3 a b e :=
  ⟨y 0, y 1, y 2, by funext a; fin_cases a <;> rfl⟩

/-- The reference run from any memory: every execution ends with the two arrays and the arguments as they were. -/
theorem run (ρ : Dev nD → PrngReg) : θ_run defs (onTc (τ := τ) (main (F := Ideal))) ⟨m, fun _ => 0, ρ⟩ (fun r => ∀ c : Dev nD,
    r.2.mem ((c.tc : Thread nD τ).loc main_v74) = outArr m c
    ∧ r.2.mem ((c.tc : Thread nD τ).loc main_v76) = lseArr m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) := by
  refine (θ_run defs _ _).mono (fun r h c => ⟨(h c).1.trans ?_, (h c).2.1.trans ?_, (h c).2.2⟩) (Value.run m ρ)
  · rw [val_main_v74_eq, Value.exit_main_arg1, Value.exit_main_arg3, Value.exit_main_arg5, Value.exit_main_arg6,
      Value.exit_main_v0_0, Value.exit_main_v0_1, Value.exit_main_v0_2, reg0, reg1, reg2]
    funext y
    obtain ⟨a, b, e, rfl⟩ := split3 y
    exact RefVal.v74_apply _ _ _ _ _ _ _ _ _ _
  · rw [val_main_v76_eq, Value.exit_main_arg1, Value.exit_main_arg3, Value.exit_main_arg6,
      Value.exit_main_v0_0, Value.exit_main_v0_1, reg0, reg1]
    funext y
    obtain ⟨a, b, e, rfl⟩ := split3 y
    exact RefVal.v76_apply _ _ _ _ (m ((c.tc : Thread nD τ).loc main_arg4)) (m ((c.tc : Thread nD τ).loc main_arg5)) _ _ _ _

end Cert.RefRun

end
-- ==== Proof.lean ====
/- The assembly of the certificate. -/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Run
public import proofs.«01_k».proof.Proof.RefRun

@[expose] public section

open Idealize.ShloMosaic

namespace Cert.Proof

/-- The four constants of the kernel are named: their bit patterns are the words of the printed program. -/
theorem preserves : preserves_Kernel_KernelIdeal :=
  ⟨IdealRules.named_const.statement Cert.KernelIdeal.κ "log2e" .f32 0x3FB8AA3B#32 _ rfl,
   IdealRules.named_const.statement Cert.KernelIdeal.κ "masked" .f32 0xF149F2CA#32 _ rfl,
   IdealRules.named_const.statement Cert.KernelIdeal.κ "score_scale" .f32 0x3E16C740#32 _ rfl,
   IdealRules.named_const.statement Cert.KernelIdeal.κ "ln2" .f32 0x3F317218#32 _ rfl⟩

/-- The two programs' arguments agree at coordinates when they agree as arrays. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.RefRun.A m' c = Cert.Run.A m c := by
  unfold Cert.RefRun.A
  rw [h0, h1, h2, h3, h4, h5, h6]
  rfl

/-- Over the reals, from arguments that agree, the kernel's two results and the reference's are the same arrays. -/
theorem algebraic : algebraic_KernelIdeal_ReferenceIdeal := by
  intro m g m' g' _ hargs
  refine ⟨fun c => Cert.RefRun.outArr m' c, fun c => Cert.RefRun.lseArr m' c, ?_, Cert.RefRun.run m' g'⟩
  refine (θ_run _ _ _).mono (fun r h c => ⟨(h c).1.trans ?_, (h c).2.1.trans ?_, (h c).2.2⟩) (Cert.Run.run m g)
  all_goals
    obtain ⟨h0, h1, h2, h3, h4, h5, h6⟩ := hargs c
    have hA := args_eq m m' c h0 h1 h2 h3 h4 h5 h6
    funext y
    obtain ⟨a, b, e, rfl⟩ := Cert.RefRun.split3 y
  · exact (Cert.Run.out_result m g c a b e).trans (congrArg (fun A => Cert.Spec.out A a b (Cert.Run.colHead e) (Cert.Run.colFeat e)) hA.symm)
  · exact (Cert.Run.lse_result m g c a b e).trans (congrArg (fun A => Cert.Spec.lse A a b e) hA.symm)

/-- The certificate: the three frames, the constants' words, and the equation of the results. -/
theorem claim : Cert.Claim :=
  ⟨Cert.Kernel.Gen.facts, Cert.KernelIdeal.Gen.facts, Cert.ReferenceIdeal.Gen.facts,
   fun m ρ _ => Cert.Kernel.Gen.frame m ρ, fun m ρ _ => Cert.KernelIdeal.Gen.frame m ρ,
   fun m ρ _ => Cert.ReferenceIdeal.Gen.frame m ρ, preserves, algebraic⟩

end Cert.Proof
